-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2560x27648 : Shape := ⟨3, ![2, 2560, 27648]⟩
abbrev S2x40x27648 : Shape := ⟨3, ![2, 40, 27648]⟩
abbrev S2x5120x96 : Shape := ⟨3, ![2, 5120, 96]⟩
abbrev S2x96x27648 : Shape := ⟨3, ![2, 96, 27648]⟩
abbrev S2x27648 : Shape := ⟨2, ![2, 27648]⟩
abbrev S1x2560x256 : Shape := ⟨3, ![1, 2560, 256]⟩
abbrev S1x40x256 : Shape := ⟨3, ![1, 40, 256]⟩
abbrev S1x5120x96 : Shape := ⟨3, ![1, 5120, 96]⟩
abbrev S1x96x256 : Shape := ⟨3, ![1, 96, 256]⟩
abbrev S2x256 : Shape := ⟨2, ![2, 256]⟩
abbrev S5120x256 : Shape := ⟨2, ![5120, 256]⟩
abbrev S40x256 : Shape := ⟨2, ![40, 256]⟩
abbrev S96x256 : Shape := ⟨2, ![96, 256]⟩
abbrev S8x256 : Shape := ⟨2, ![8, 256]⟩
abbrev S1x64x256 : Shape := ⟨3, ![1, 64, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩
abbrev S1x128x96 : Shape := ⟨3, ![1, 128, 96]⟩
abbrev S128x96 : Shape := ⟨2, ![128, 96]⟩
abbrev S16x8x256 : Shape := ⟨3, ![16, 8, 256]⟩
abbrev S256 : Shape := ⟨1, ![256]⟩

abbrev nBuf : Space → Nat
  | .hbm => 7
  | .vmem => 17
  | .smem => 0
  | _ => 0

abbrev bufTy : (tb : Table) → Fin (tcTables nBuf tb) → BufTy
  | .hbm, ⟨0, _⟩ => ⟨S2x2560x27648, .i8⟩
  | .hbm, ⟨1, _⟩ => ⟨S2x40x27648, .bf16⟩
  | .hbm, ⟨2, _⟩ => ⟨S2x5120x96, .bf16⟩
  | .hbm, ⟨3, _⟩ => ⟨S2x96x27648, .bf16⟩
  | .hbm, ⟨4, _⟩ => ⟨S2x27648, .bf16⟩
  | .hbm, ⟨5, _⟩ => ⟨S2x2560x27648, .i8⟩
  | .hbm, ⟨6, _⟩ => ⟨S2x40x27648, .bf16⟩
  | .local _ .vmem, ⟨0, _⟩ => ⟨S1x2560x256, .i8⟩
  | .local _ .vmem, ⟨1, _⟩ => ⟨S1x2560x256, .i8⟩
  | .local _ .vmem, ⟨2, _⟩ => ⟨S1x40x256, .bf16⟩
  | .local _ .vmem, ⟨3, _⟩ => ⟨S1x40x256, .bf16⟩
  | .local _ .vmem, ⟨4, _⟩ => ⟨S1x5120x96, .bf16⟩
  | .local _ .vmem, ⟨5, _⟩ => ⟨S1x5120x96, .bf16⟩
  | .local _ .vmem, ⟨6, _⟩ => ⟨S1x96x256, .bf16⟩
  | .local _ .vmem, ⟨7, _⟩ => ⟨S1x96x256, .bf16⟩
  | .local _ .vmem, ⟨8, _⟩ => ⟨S2x256, .bf16⟩
  | .local _ .vmem, ⟨9, _⟩ => ⟨S2x256, .bf16⟩
  | .local _ .vmem, ⟨10, _⟩ => ⟨S1x2560x256, .i8⟩
  | .local _ .vmem, ⟨11, _⟩ => ⟨S1x2560x256, .i8⟩
  | .local _ .vmem, ⟨12, _⟩ => ⟨S1x40x256, .bf16⟩
  | .local _ .vmem, ⟨13, _⟩ => ⟨S1x40x256, .bf16⟩
  | .local _ .vmem, ⟨14, _⟩ => ⟨S5120x256, .f32⟩
  | .local _ .vmem, ⟨15, _⟩ => ⟨S40x256, .f32⟩
  | .local _ .vmem, ⟨16, _⟩ => ⟨S40x256, .f32⟩
  | _, _ => ⟨S2x2560x27648, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 108], ![false, false]⟩

@[reducible] def k0_t1_loop : Scf.Loop 32 :=
  let c0_i32 : BitVec 32 := 0#32
  let c40_i32 : BitVec 32 := 40#32
  let v11 : BitVec 32 := Scalar.addi c0_i32 c40_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v51 : BitVec 32 := Scalar.muli arg12 c64_i32
  v51
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v53 : BitVec 32 := Scalar.muli arg12 c128_i32
  v53
def k0_off1 (k0_t1 : Fin k0_t1_loop.trips) : Fin 3 → Nat :=
  let c0_30 : Index := 0#32
  let c0_i32 : BitVec 32 := 0#32
  let c1_i32 : BitVec 32 := 1#32
  let arg12 : BitVec 32 := Scf.iv c0_i32 c1_i32 k0_t1
  let c64_i32 : BitVec 32 := 64#32
  let v51 : BitVec 32 := Scalar.muli arg12 c64_i32
  let v52 : BitVec 32 := v51
  let v55 : Index := Scalar.indexCast v52
  let c0_31 : Index := 0#32
  ![0, v55.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let v74 : Index := Scalar.indexCast arg12
  let c0_34 : Index := 0#32
  ![v74.toNat, 0]
def k0_off3 (k0_t1 : Fin k0_t1_loop.trips) : Fin 3 → Nat :=
  let c0_35 : Index := 0#32
  let c0_i32 : BitVec 32 := 0#32
  let c1_i32 : BitVec 32 := 1#32
  let arg12 : BitVec 32 := Scf.iv c0_i32 c1_i32 k0_t1
  let c128_i32 : BitVec 32 := 128#32
  let v53 : BitVec 32 := Scalar.muli arg12 c128_i32
  let v54 : BitVec 32 := v53
  let v76 : Index := Scalar.indexCast v54
  let c0_36 : Index := 0#32
  ![0, v76.toNat, 0]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v53 : BitVec 32 := Scalar.muli arg12 c128_i32
  let v54 : BitVec 32 := v53
  let v83 : Index := Scalar.indexCast v54
  let c0_38 : Index := 0#32
  ![v83.toNat, 0]
@[reducible] def k0_t2_loop : Scf.Loop 32 :=
  let c0_i32_26 : BitVec 32 := 0#32
  let c40_i32_27 : BitVec 32 := 40#32
  let v50 : BitVec 32 := Scalar.addi c0_i32_26 c40_i32_27
  let c1_i32_28 : BitVec 32 := 1#32
  ⟨c0_i32_26, v50, c1_i32_28⟩
def k0_mult3 (k0_t2 : Fin k0_t2_loop.trips) : BitVec 32 :=
  let c0_i32_26 : BitVec 32 := 0#32
  let c1_i32_28 : BitVec 32 := 1#32
  let arg12 : BitVec 32 := Scf.iv c0_i32_26 c1_i32_28 k0_t2
  let c64_i32 : BitVec 32 := 64#32
  let v51 : BitVec 32 := Scalar.muli arg12 c64_i32
  v51
def k0_mult4 (k0_t2 : Fin k0_t2_loop.trips) : BitVec 32 :=
  let c0_i32_26 : BitVec 32 := 0#32
  let c1_i32_28 : BitVec 32 := 1#32
  let arg12 : BitVec 32 := Scf.iv c0_i32_26 c1_i32_28 k0_t2
  let c128_i32 : BitVec 32 := 128#32
  let v53 : BitVec 32 := Scalar.muli arg12 c128_i32
  v53
def k0_off5 (k0_t2 : Fin k0_t2_loop.trips) : Fin 2 → Nat :=
  let c0_i32_26 : BitVec 32 := 0#32
  let c1_i32_28 : BitVec 32 := 1#32
  let arg12 : BitVec 32 := Scf.iv c0_i32_26 c1_i32_28 k0_t2
  let c128_i32 : BitVec 32 := 128#32
  let v53 : BitVec 32 := Scalar.muli arg12 c128_i32
  let v54 : BitVec 32 := v53
  let v55 : Index := Scalar.indexCast v54
  let c0_30 : Index := 0#32
  ![v55.toNat, 0]
def k0_off6 (k0_t2 : Fin k0_t2_loop.trips) : Fin 2 → Nat :=
  let c0_i32_26 : BitVec 32 := 0#32
  let c1_i32_28 : BitVec 32 := 1#32
  let arg12 : BitVec 32 := Scf.iv c0_i32_26 c1_i32_28 k0_t2
  let v57 : Index := Scalar.indexCast arg12
  let c0_31 : Index := 0#32
  ![v57.toNat, 0]
def k0_off7 (k0_t2 : Fin k0_t2_loop.trips) : Fin 3 → Nat :=
  let c0_35 : Index := 0#32
  let c0_i32_26 : BitVec 32 := 0#32
  let c1_i32_28 : BitVec 32 := 1#32
  let arg12 : BitVec 32 := Scf.iv c0_i32_26 c1_i32_28 k0_t2
  let c64_i32 : BitVec 32 := 64#32
  let v51 : BitVec 32 := Scalar.muli arg12 c64_i32
  let v52 : BitVec 32 := v51
  let v84 : Index := Scalar.indexCast v52
  let c0_36 : Index := 0#32
  ![0, v84.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2560x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5120x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x96x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2560x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x40x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2560x27648 : Shape := ⟨3, ![2, 2560, 27648]⟩
abbrev S2x40x27648 : Shape := ⟨3, ![2, 40, 27648]⟩
abbrev S2x5120x96 : Shape := ⟨3, ![2, 5120, 96]⟩
abbrev S2x96x27648 : Shape := ⟨3, ![2, 96, 27648]⟩
abbrev S2x27648 : Shape := ⟨2, ![2, 27648]⟩
abbrev S_ : Shape := ⟨0, ![]⟩
abbrev S2x40x64x27648 : Shape := ⟨4, ![2, 40, 64, 27648]⟩
abbrev S2x40x1x27648 : Shape := ⟨4, ![2, 40, 1, 27648]⟩
abbrev S2x2560x2x96 : Shape := ⟨4, ![2, 2560, 2, 96]⟩
abbrev S2x2560x1x96 : Shape := ⟨4, ![2, 2560, 1, 96]⟩
abbrev S2x2560x96 : Shape := ⟨3, ![2, 2560, 96]⟩
abbrev S2x1x27648 : Shape := ⟨3, ![2, 1, 27648]⟩

abbrev nBuf : Space → Nat
  | .hbm => 139
  | .vmem => 0
  | .smem => 0
  | _ => 0

abbrev hbmTy0_0 (i : Nat) : BufTy := match i % 128 with
  | 0 => ⟨S2x2560x27648, .i8⟩
  | 1 => ⟨S2x40x27648, .bf16⟩
  | 2 => ⟨S2x5120x96, .bf16⟩
  | 3 => ⟨S2x96x27648, .bf16⟩
  | 4 => ⟨S2x27648, .bf16⟩
  | 5 => ⟨S2x2560x27648, .i32⟩
  | 6 => ⟨S_, .i32⟩
  | 7 => ⟨S2x2560x27648, .i32⟩
  | 8 => ⟨S2x2560x27648, .i32⟩
  | 9 => ⟨S_, .i32⟩
  | 10 => ⟨S2x2560x27648, .i32⟩
  | 11 => ⟨S2x2560x27648, .i32⟩
  | 12 => ⟨S_, .i32⟩
  | 13 => ⟨S2x2560x27648, .i32⟩
  | 14 => ⟨S2x2560x27648, .i1⟩
  | 15 => ⟨S_, .i32⟩
  | 16 => ⟨S2x2560x27648, .i32⟩
  | 17 => ⟨S2x2560x27648, .i32⟩
  | 18 => ⟨S2x2560x27648, .i32⟩
  | 19 => ⟨S_, .i32⟩
  | 20 => ⟨S2x2560x27648, .i32⟩
  | 21 => ⟨S2x2560x27648, .i1⟩
  | 22 => ⟨S_, .i32⟩
  | 23 => ⟨S2x2560x27648, .i32⟩
  | 24 => ⟨S2x2560x27648, .i32⟩
  | 25 => ⟨S2x2560x27648, .i32⟩
  | 26 => ⟨S2x40x64x27648, .i32⟩
  | 27 => ⟨S2x40x64x27648, .f32⟩
  | 28 => ⟨S2x40x27648, .f32⟩
  | 29 => ⟨S2x40x1x27648, .f32⟩
  | 30 => ⟨S2x40x64x27648, .f32⟩
  | 31 => ⟨S2x40x64x27648, .f32⟩
  | 32 => ⟨S2x2560x27648, .f32⟩
  | 33 => ⟨S2x40x64x27648, .i32⟩
  | 34 => ⟨S2x40x64x27648, .f32⟩
  | 35 => ⟨S2x40x27648, .f32⟩
  | 36 => ⟨S2x40x1x27648, .f32⟩
  | 37 => ⟨S2x40x64x27648, .f32⟩
  | 38 => ⟨S2x40x64x27648, .f32⟩
  | 39 => ⟨S2x2560x27648, .f32⟩
  | 40 => ⟨S2x2560x2x96, .bf16⟩
  | 41 => ⟨S2x2560x1x96, .bf16⟩
  | 42 => ⟨S2x2560x96, .bf16⟩
  | 43 => ⟨S2x2560x1x96, .bf16⟩
  | 44 => ⟨S2x2560x96, .bf16⟩
  | 45 => ⟨S2x2560x27648, .f32⟩
  | 46 => ⟨S2x2560x27648, .f32⟩
  | 47 => ⟨S_, .f32⟩
  | 48 => ⟨S2x2560x27648, .f32⟩
  | 49 => ⟨S2x2560x27648, .f32⟩
  | 50 => ⟨S2x2560x27648, .f32⟩
  | 51 => ⟨S_, .f32⟩
  | 52 => ⟨S2x2560x27648, .f32⟩
  | 53 => ⟨S2x2560x27648, .f32⟩
  | 54 => ⟨S2x2560x27648, .f32⟩
  | 55 => ⟨S2x2560x27648, .f32⟩
  | 56 => ⟨S_, .f32⟩
  | 57 => ⟨S2x27648, .f32⟩
  | 58 => ⟨S2x2560x27648, .f32⟩
  | 59 => ⟨S_, .f32⟩
  | 60 => ⟨S2x27648, .f32⟩
  | 61 => ⟨S2x27648, .f32⟩
  | 62 => ⟨S2x27648, .f32⟩
  | 63 => ⟨S_, .f32⟩
  | 64 => ⟨S2x27648, .f32⟩
  | 65 => ⟨S2x27648, .i1⟩
  | 66 => ⟨S_, .f32⟩
  | 67 => ⟨S_, .f32⟩
  | 68 => ⟨S2x27648, .f32⟩
  | 69 => ⟨S2x27648, .f32⟩
  | 70 => ⟨S2x27648, .f32⟩
  | 71 => ⟨S2x27648, .f32⟩
  | 72 => ⟨S2x1x27648, .f32⟩
  | 73 => ⟨S2x2560x27648, .f32⟩
  | 74 => ⟨S2x2560x27648, .f32⟩
  | 75 => ⟨S2x2560x27648, .f32⟩
  | 76 => ⟨S2x2560x27648, .f32⟩
  | 77 => ⟨S2x40x64x27648, .f32⟩
  | 78 => ⟨S2x40x64x27648, .f32⟩
  | 79 => ⟨S2x40x64x27648, .f32⟩
  | 80 => ⟨S_, .f32⟩
  | 81 => ⟨S2x40x27648, .f32⟩
  | 82 => ⟨S2x40x64x27648, .f32⟩
  | 83 => ⟨S_, .f32⟩
  | 84 => ⟨S2x40x27648, .f32⟩
  | 85 => ⟨S2x40x27648, .f32⟩
  | 86 => ⟨S_, .f32⟩
  | 87 => ⟨S2x40x27648, .f32⟩
  | 88 => ⟨S2x40x27648, .i1⟩
  | 89 => ⟨S_, .f32⟩
  | 90 => ⟨S2x40x27648, .f32⟩
  | 91 => ⟨S2x40x27648, .f32⟩
  | 92 => ⟨S_, .f32⟩
  | 93 => ⟨S_, .f32⟩
  | 94 => ⟨S2x40x27648, .f32⟩
  | 95 => ⟨S2x40x27648, .f32⟩
  | 96 => ⟨S2x40x27648, .bf16⟩
  | 97 => ⟨S2x40x27648, .f32⟩
  | 98 => ⟨S2x40x1x27648, .f32⟩
  | 99 => ⟨S2x40x64x27648, .f32⟩
  | 100 => ⟨S2x40x64x27648, .f32⟩
  | 101 => ⟨S2x40x64x27648, .f32⟩
  | 102 => ⟨S_, .f32⟩
  | 103 => ⟨S_, .f32⟩
  | 104 => ⟨S_, .f32⟩
  | 105 => ⟨S2x40x64x27648, .f32⟩
  | 106 => ⟨S2x40x64x27648, .f32⟩
  | 107 => ⟨S_, .f32⟩
  | 108 => ⟨S2x40x64x27648, .f32⟩
  | 109 => ⟨S2x40x64x27648, .f32⟩
  | 110 => ⟨S2x40x64x27648, .i32⟩
  | 111 => ⟨S2x40x64x27648, .i8⟩
  | 112 => ⟨S2x40x64x27648, .f32⟩
  | 113 => ⟨S2x40x64x27648, .f32⟩
  | 114 => ⟨S2x40x64x27648, .f32⟩
  | 115 => ⟨S_, .f32⟩
  | 116 => ⟨S_, .f32⟩
  | 117 => ⟨S_, .f32⟩
  | 118 => ⟨S2x40x64x27648, .f32⟩
  | 119 => ⟨S2x40x64x27648, .f32⟩
  | 120 => ⟨S_, .f32⟩
  | 121 => ⟨S2x40x64x27648, .f32⟩
  | 122 => ⟨S2x40x64x27648, .f32⟩
  | 123 => ⟨S2x40x64x27648, .i32⟩
  | 124 => ⟨S2x40x64x27648, .i8⟩
  | 125 => ⟨S2x40x64x27648, .i32⟩
  | 126 => ⟨S_, .i32⟩
  | 127 => ⟨S2x40x64x27648, .i32⟩
  | _ => ⟨S2x2560x27648, .i8⟩

abbrev hbmTy0_1 (i : Nat) : BufTy := match i % 128 with
  | 0 => ⟨S2x40x64x27648, .i32⟩
  | 1 => ⟨S2x40x64x27648, .i32⟩
  | 2 => ⟨S_, .i32⟩
  | 3 => ⟨S2x40x64x27648, .i32⟩
  | 4 => ⟨S2x40x64x27648, .i32⟩
  | 5 => ⟨S_, .i32⟩
  | 6 => ⟨S2x40x64x27648, .i32⟩
  | 7 => ⟨S2x40x64x27648, .i32⟩
  | 8 => ⟨S2x40x64x27648, .i32⟩
  | 9 => ⟨S2x40x64x27648, .i8⟩
  | 10 => ⟨S2x2560x27648, .i8⟩
  | _ => ⟨S2x2560x27648, .i8⟩

abbrev hbmTy (i : Nat) : BufTy := match i / 128 with
  | 0 => hbmTy0_0 i
  | 1 => hbmTy0_1 i
  | _ => ⟨S2x2560x27648, .i8⟩

abbrev bufTy : (tb : Table) → Fin (tcTables nBuf tb) → BufTy
  | .hbm, ⟨i, _⟩ => hbmTy i
  | _, _ => ⟨S2x2560x27648, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_call3_v0 : Ref sig .tc := ⟨.hbm, 93, rfl⟩
abbrev main_call3_v1 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_cst_16 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_cst_18 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_19 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_20 : Ref sig .tc := ⟨.hbm, 130, rfl⟩
abbrev main_v89 : Ref sig .tc := ⟨.hbm, 131, rfl⟩
abbrev main_v90 : Ref sig .tc := ⟨.hbm, 132, rfl⟩
abbrev main_c_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩

abbrev nD : Nat := 1
abbrev τ : Topo := Topo.v7x

variable {F : FTy → Type} [FloatOps F]
-- ==== Proof.Block.lean ====
/- What one grid point of the kernel leaves in its output blocks and scratch buffers, as functions of the input blocks: `v9` the merged
   weights, `a10` the per-group greatest absolute value, `acc1` the running column sums of squares, `out8` the group scales and `out7`
   the packed codes. Each is spelt with the payloads of the printed program, so that it holds for any float values. -/
module

public import proofs.«01_k».proof.Proof.Gen.KernelIdeal.Loops
public import Idealize.ShloMosaic.Lib.Pipeline.FrameBody
public import Idealize.ShloMosaic.Lib.Pipeline.Value
public import Idealize.ShloMosaic.Lib.ValueIdx
public import Idealize.ShloMosaic.Lib.WritesUnit

@[expose] public section

noncomputable section

namespace Cert.KernelIdeal.Block

open Idealize.ShloMosaic Idealize.ShloMosaic.TcCoe Idealize.ShloMosaic.Tactic
open Idealize.ShloMosaic.ValueIdx
open Cert.KernelIdeal.Gen

variable {F : FTy → Type} [FloatOps F]

/-- The first loop makes 40 trips, one per group. -/
theorem trips1 : k0_t1_loop.trips = 40 := by decide +kernel
/-- The second loop makes 40 trips, one per group. -/
theorem trips2 : k0_t2_loop.trips = 40 := by decide +kernel

/-- The values of `f` at the trips before `n`, the last first. -/
def upTo {α : Type} {T : ℕ} (f : Fin T → α) : ℕ → List α
  | 0 => []
  | n + 1 => if h : n < T then f ⟨n, h⟩ :: upTo f n else upTo f n

/-- One more trip puts its value in front. -/
theorem upTo_succ {α : Type} {T : ℕ} (f : Fin T → α) (k : Fin T) : upTo f (k.val + 1) = f k :: upTo f k.val :=
  dif_pos k.isLt

/-- Everything listed is the value at some trip, -/
theorem exists_of_mem_upTo {α : Type} {T : ℕ} (f : Fin T → α) : ∀ (n : ℕ) (p : α), p ∈ upTo f n → ∃ k, p = f k
  | 0, p, h => absurd h List.not_mem_nil
  | n + 1, p, h => by
    unfold upTo at h
    split at h
    · rcases List.mem_cons.mp h with rfl | h
      · exact ⟨_, rfl⟩
      · exact exists_of_mem_upTo f n p h
    · exact exists_of_mem_upTo f n p h

/-- and every trip before `n` is listed. -/
theorem mem_upTo {α : Type} {T : ℕ} (f : Fin T → α) (k : Fin T) : ∀ n : ℕ, k.val < n → f k ∈ upTo f n
  | 0, h => absurd h (Nat.not_lt_zero _)
  | n + 1, h => by
    unfold upTo
    rcases Nat.lt_succ_iff_lt_or_eq.mp h with h' | h'
    · split
      · exact List.mem_cons_of_mem _ (mem_upTo f k n h')
      · exact mem_upTo f k n h'
    · subst h'
      rw [dif_pos k.isLt]
      exact List.mem_cons_self

/-! ### The first loop: merging -/

/-- The code rows of group `k`. -/
def codesAt (x0 : Vec F S1x2560x256 .i8) (k : Fin k0_t1_loop.trips) : Vec F S1x64x256 .i8 :=
  View.ld x0 (Rect.unit (s := S1x2560x256) (k0_off1 k) S1x64x256.size (k0_off1_inb k))

/-- The scale row of group `k`. -/
def scaleAt (x1 : Vec F S1x40x256 .bf16) (k : Fin k0_t1_loop.trips) : Vec F S1x256 .f32 :=
  View.ld (k0_pay10 x1) (Rect.unit (s := S40x256) (k0_off2 k) S1x256.size (k0_off2_inb k))

/-- The rows of the left factor that belong to group `k`. -/
def loraAt (x2 : Vec F S1x5120x96 .bf16) (k : Fin k0_t1_loop.trips) : Vec F S1x128x96 .bf16 :=
  View.ld x2 (Rect.unit (s := S1x5120x96) (k0_off3 k) S1x128x96.size (k0_off3_inb k))

/-- The merged weights of group `k`. -/
def mergedAt (x0 : Vec F S1x2560x256 .i8) (x1 : Vec F S1x40x256 .bf16) (x2 : Vec F S1x5120x96 .bf16) (x3 : Vec F S1x96x256 .bf16)
    (k : Fin k0_t1_loop.trips) : Vec F S128x256 .f32 :=
  k0_pay6 (k0_pay9 x3) (codesAt x0 k) (scaleAt x1 k) (loraAt x2 k)

/-- The greatest absolute value of each column of group `k`. -/
def amaxAt (x0 : Vec F S1x2560x256 .i8) (x1 : Vec F S1x40x256 .bf16) (x2 : Vec F S1x5120x96 .bf16) (x3 : Vec F S1x96x256 .bf16)
    (k : Fin k0_t1_loop.trips) : Vec F S1x256 .f32 :=
  k0_pay12 (k0_pay8 (k0_pay9 x3) (codesAt x0 k) (scaleAt x1 k) (loraAt x2 k))

/-- The running sums of squares before trip `n`. -/
def acc1 (x0 : Vec F S1x2560x256 .i8) (x1 : Vec F S1x40x256 .bf16) (x2 : Vec F S1x5120x96 .bf16) (x3 : Vec F S1x96x256 .bf16) :
    ℕ → FVec F S8x256 .f32
  | 0 => k0_pay11
  | n + 1 => if h : n < k0_t1_loop.trips then
      k0_pay13 (acc1 x0 x1 x2 x3 n) (k0_pay7 (k0_pay9 x3) (codesAt x0 ⟨n, h⟩) (scaleAt x1 ⟨n, h⟩) (loraAt x2 ⟨n, h⟩))
    else acc1 x0 x1 x2 x3 n

/-- One trip adds its group's squares. -/
theorem acc1_succ (x0 : Vec F S1x2560x256 .i8) (x1 : Vec F S1x40x256 .bf16) (x2 : Vec F S1x5120x96 .bf16) (x3 : Vec F S1x96x256 .bf16)
    (k : Fin k0_t1_loop.trips) :
    acc1 x0 x1 x2 x3 (k.val + 1)
      = k0_pay13 (acc1 x0 x1 x2 x3 k.val) (k0_pay7 (k0_pay9 x3) (codesAt x0 k) (scaleAt x1 k) (loraAt x2 k)) :=
  dif_pos k.isLt

/-- The store of trip `k` into the buffer of merged weights. -/
def piece9 (x0 : Vec F S1x2560x256 .i8) (x1 : Vec F S1x40x256 .bf16) (x2 : Vec F S1x5120x96 .bf16) (x3 : Vec F S1x96x256 .bf16)
    (k : Fin k0_t1_loop.trips) : View.Piece (Elt F) S5120x256 .f32 :=
  ⟨Rect.unit (s := S5120x256) (k0_off4 k) S128x256.size (k0_off4_inb k), mergedAt x0 x1 x2 x3 k⟩

/-- The store of trip `k` into the buffer of greatest absolute values. -/
def piece10 (x0 : Vec F S1x2560x256 .i8) (x1 : Vec F S1x40x256 .bf16) (x2 : Vec F S1x5120x96 .bf16) (x3 : Vec F S1x96x256 .bf16)
    (k : Fin k0_t1_loop.trips) : View.Piece (Elt F) S40x256 .f32 :=
  ⟨Rect.unit (s := S40x256) (k0_off2 k) S1x256.size (k0_off2_inb k), amaxAt x0 x1 x2 x3 k⟩

/-- All merged weights of the point: row `r` belongs to group `r / 128`. -/
def v9 (x0 : Vec F S1x2560x256 .i8) (x1 : Vec F S1x40x256 .bf16) (x2 : Vec F S1x5120x96 .bf16) (x3 : Vec F S1x96x256 .bf16) :
    Vec F S5120x256 .f32 := fun y =>
  mergedAt x0 x1 x2 x3 ⟨(y 0).val / 128, by have := (y 0).isLt; rw [trips1]; simp at this; omega⟩
    (ix2 (⟨(y 0).val % 128, Nat.mod_lt _ (by decide)⟩ : Fin 128) (⟨(y 1).val, (y 1).isLt⟩ : Fin 256))

/-- All the greatest absolute values of the point. -/
def a10 (x0 : Vec F S1x2560x256 .i8) (x1 : Vec F S1x40x256 .bf16) (x2 : Vec F S1x5120x96 .bf16) (x3 : Vec F S1x96x256 .bf16) :
    Vec F S40x256 .f32 := fun y =>
  amaxAt x0 x1 x2 x3 ⟨(y 0).val, by have := (y 0).isLt; rw [trips1]; simpa using this⟩
    (ix2 (0 : Fin 1) (⟨(y 1).val, (y 1).isLt⟩ : Fin 256))

/-- The stores of the first loop leave the merged weights, whatever the buffer held. -/
theorem read_pieces9 {κ : Kind} {sp : Space} (v : View sig κ sp S5120x256 .f32) (f : v.ty.Contents (Elt F))
    (x0 : Vec F S1x2560x256 .i8) (x1 : Vec F S1x40x256 .bf16) (x2 : Vec F S1x5120x96 .bf16) (x3 : Vec F S1x96x256 .bf16) :
    v.read (Elt F) (v.writes (Elt F) f (upTo (piece9 x0 x1 x2 x3) k0_t1_loop.trips)) = v9 x0 x1 x2 x3 := by
  funext y
  refine View.read_writes_apply_of_pieces v f (v9 x0 x1 x2 x3) _ ?_ y ?_
  · intro p hp x
    obtain ⟨k, rfl⟩ := exists_of_mem_upTo _ _ _ hp
    have e0 : (((piece9 x0 x1 x2 x3 k).1.emb x) 0).val = 128 * k.val + (x 0).val := by
      show (k0_off4 k) 0 + 1 * (x 0).val = _
      rw [k0_off4_eq]; simp
    have e1 : (((piece9 x0 x1 x2 x3 k).1.emb x) 1).val = (x 1).val := by
      show (k0_off4 k) 1 + 1 * (x 1).val = _
      rw [k0_off4_eq]; simp
    have hx : (x 0).val < 128 := (x 0).isLt
    show mergedAt x0 x1 x2 x3 k x = _
    unfold v9
    refine congr (congrArg (mergedAt x0 x1 x2 x3) (Fin.ext ?_)) (funext fun a => ?_)
    · show k.val = (((piece9 x0 x1 x2 x3 k).1.emb x) 0).val / 128; rw [e0]; omega
    · fin_cases a
      · exact Fin.ext (by show (x 0).val = (((piece9 x0 x1 x2 x3 k).1.emb x) 0).val % 128; rw [e0]; omega)
      · exact Fin.ext (by show (x 1).val = _; exact e1.symm)
  · have h0 : (y 0).val < 5120 := (y 0).isLt
    have hk : (y 0).val / 128 < k0_t1_loop.trips := by rw [trips1]; omega
    refine ⟨_, mem_upTo _ ⟨_, hk⟩ _ hk, ?_⟩
    show y ∈ (Rect.unit (s := S5120x256) (k0_off4 ⟨_, hk⟩) S128x256.size (k0_off4_inb ⟨_, hk⟩)).set
    rw [Rect.mem_set_unit, k0_off4_eq]
    have h1 : (y 1).val < 256 := (y 1).isLt
    intro a
    fin_cases a
    · show 128 * ((y 0).val / 128) ≤ (y 0).val ∧ (y 0).val < 128 * ((y 0).val / 128) + 128
      omega
    · show 0 ≤ (y 1).val ∧ (y 1).val < 0 + 256
      omega

/-- The stores of the first loop leave the greatest absolute values, whatever the buffer held. -/
theorem read_pieces10 {κ : Kind} {sp : Space} (v : View sig κ sp S40x256 .f32) (f : v.ty.Contents (Elt F))
    (x0 : Vec F S1x2560x256 .i8) (x1 : Vec F S1x40x256 .bf16) (x2 : Vec F S1x5120x96 .bf16) (x3 : Vec F S1x96x256 .bf16) :
    v.read (Elt F) (v.writes (Elt F) f (upTo (piece10 x0 x1 x2 x3) k0_t1_loop.trips)) = a10 x0 x1 x2 x3 := by
  funext y
  refine View.read_writes_apply_of_pieces v f (a10 x0 x1 x2 x3) _ ?_ y ?_
  · intro p hp x
    obtain ⟨k, rfl⟩ := exists_of_mem_upTo _ _ _ hp
    have hx : (x 0).val < 1 := (x 0).isLt
    have e0 : (((piece10 x0 x1 x2 x3 k).1.emb x) 0).val = k.val := by
      show (k0_off2 k) 0 + 1 * (x 0).val = _
      rw [k0_off2_eq]; simp; omega
    have e1 : (((piece10 x0 x1 x2 x3 k).1.emb x) 1).val = (x 1).val := by
      show (k0_off2 k) 1 + 1 * (x 1).val = _
      rw [k0_off2_eq]; simp
    show amaxAt x0 x1 x2 x3 k x = _
    unfold a10
    refine congr (congrArg (amaxAt x0 x1 x2 x3) (Fin.ext ?_)) (funext fun a => ?_)
    · exact e0.symm
    · fin_cases a
      · exact Fin.ext (by show (x 0).val = 0; omega)
      · exact Fin.ext (by show (x 1).val = _; exact e1.symm)
  · have hk : (y 0).val < k0_t1_loop.trips := by rw [trips1]; exact (y 0).isLt
    refine ⟨_, mem_upTo _ ⟨_, hk⟩ _ hk, ?_⟩
    show y ∈ (Rect.unit (s := S40x256) (k0_off2 ⟨_, hk⟩) S1x256.size (k0_off2_inb ⟨_, hk⟩)).set
    rw [Rect.mem_set_unit, k0_off2_eq]
    have h1 : (y 1).val < 256 := (y 1).isLt
    intro a
    fin_cases a
    · show (y 0).val ≤ (y 0).val ∧ (y 0).val < (y 0).val + 1
      omega
    · show 0 ≤ (y 1).val ∧ (y 1).val < 0 + 256
      omega

/-! ### Between the loops: scales -/

/-- The column factor `magnitude / norm`. -/
def c29 (i : grid0.Coords) (x0 : Vec F S1x2560x256 .i8) (x1 : Vec F S1x40x256 .bf16) (x2 : Vec F S1x5120x96 .bf16)
    (x3 : Vec F S1x96x256 .bf16) (x4 : Vec F S2x256 .bf16) : FVec F S1x256 .f32 :=
  k0_pay14 i (acc1 x0 x1 x2 x3 k0_t1_loop.trips) x4

/-- The greatest absolute value of each group after the column factor. -/
def a33 (i : grid0.Coords) (x0 : Vec F S1x2560x256 .i8) (x1 : Vec F S1x40x256 .bf16) (x2 : Vec F S1x5120x96 .bf16)
    (x3 : Vec F S1x96x256 .bf16) (x4 : Vec F S2x256 .bf16) : FVec F S40x256 .f32 :=
  k0_pay15 i (acc1 x0 x1 x2 x3 k0_t1_loop.trips) x4 (a10 x0 x1 x2 x3)

/-- The scales written out. -/
def out8 (i : grid0.Coords) (x0 : Vec F S1x2560x256 .i8) (x1 : Vec F S1x40x256 .bf16) (x2 : Vec F S1x5120x96 .bf16)
    (x3 : Vec F S1x96x256 .bf16) (x4 : Vec F S2x256 .bf16) : Vec F S1x40x256 .bf16 :=
  k0_pay2 (a33 i x0 x1 x2 x3 x4)

/-- The factor that each group of merged weights is multiplied by before rounding. -/
def k11 (i : grid0.Coords) (x0 : Vec F S1x2560x256 .i8) (x1 : Vec F S1x40x256 .bf16) (x2 : Vec F S1x5120x96 .bf16)
    (x3 : Vec F S1x96x256 .bf16) (x4 : Vec F S2x256 .bf16) : Vec F S40x256 .f32 :=
  k0_pay3 (c29 i x0 x1 x2 x3 x4) (a33 i x0 x1 x2 x3 x4)

/-! ### The second loop: quantising -/

/-- The packed codes of group `k`, from all merged weights `w` and all factors `s`. -/
def quantAt (w : Vec F S5120x256 .f32) (s : Vec F S40x256 .f32) (k : Fin k0_t2_loop.trips) : Vec F S1x64x256 .i8 :=
  k0_pay4 (View.ld w (Rect.unit (s := S5120x256) (k0_off5 k) S128x256.size (k0_off5_inb k)))
    (View.ld s (Rect.unit (s := S40x256) (k0_off6 k) S1x256.size (k0_off6_inb k)))

/-- The store of trip `k` into the output block. -/
def piece7 (w : Vec F S5120x256 .f32) (s : Vec F S40x256 .f32) (k : Fin k0_t2_loop.trips) : View.Piece (Elt F) S1x2560x256 .i8 :=
  ⟨Rect.unit (s := S1x2560x256) (k0_off7 k) S1x64x256.size (k0_off7_inb k), quantAt w s k⟩

/-- The packed codes of all groups: row `p` belongs to group `p / 64`. -/
def q7 (w : Vec F S5120x256 .f32) (s : Vec F S40x256 .f32) : Vec F S1x2560x256 .i8 := fun y =>
  quantAt w s ⟨(y 1).val / 64, by have := (y 1).isLt; rw [trips2]; simp at this; omega⟩
    (ix3 (0 : Fin 1) (⟨(y 1).val % 64, Nat.mod_lt _ (by decide)⟩ : Fin 64) (⟨(y 2).val, (y 2).isLt⟩ : Fin 256))

/-- The stores of the second loop leave the packed codes, whatever the buffer held. -/
theorem read_pieces7 {κ : Kind} {sp : Space} (v : View sig κ sp S1x2560x256 .i8) (f : v.ty.Contents (Elt F))
    (w : Vec F S5120x256 .f32) (s : Vec F S40x256 .f32) :
    v.read (Elt F) (v.writes (Elt F) f (upTo (piece7 w s) k0_t2_loop.trips)) = q7 w s := by
  funext y
  refine View.read_writes_apply_of_pieces v f (q7 w s) _ ?_ y ?_
  · intro p hp x
    obtain ⟨k, rfl⟩ := exists_of_mem_upTo _ _ _ hp
    have hx : (x 0).val < 1 := (x 0).isLt
    have hx1 : (x 1).val < 64 := (x 1).isLt
    have e1 : (((piece7 w s k).1.emb x) 1).val = 64 * k.val + (x 1).val := by
      show (k0_off7 k) 1 + 1 * (x 1).val = _
      rw [k0_off7_eq]; simp
    have e2 : (((piece7 w s k).1.emb x) 2).val = (x 2).val := by
      show (k0_off7 k) 2 + 1 * (x 2).val = _
      rw [k0_off7_eq]; simp
    show quantAt w s k x = _
    unfold q7
    refine congr (congrArg (quantAt w s) (Fin.ext ?_)) (funext fun a => ?_)
    · show k.val = (((piece7 w s k).1.emb x) 1).val / 64; rw [e1]; omega
    · fin_cases a
      · exact Fin.ext (by show (x 0).val = 0; omega)
      · exact Fin.ext (by show (x 1).val = (((piece7 w s k).1.emb x) 1).val % 64; rw [e1]; omega)
      · exact Fin.ext (by show (x 2).val = _; exact e2.symm)
  · have h0 : (y 0).val < 1 := (y 0).isLt
    have h1 : (y 1).val < 2560 := (y 1).isLt
    have h2 : (y 2).val < 256 := (y 2).isLt
    have hk : (y 1).val / 64 < k0_t2_loop.trips := by rw [trips2]; omega
    refine ⟨_, mem_upTo _ ⟨_, hk⟩ _ hk, ?_⟩
    show y ∈ (Rect.unit (s := S1x2560x256) (k0_off7 ⟨_, hk⟩) S1x64x256.size (k0_off7_inb ⟨_, hk⟩)).set
    rw [Rect.mem_set_unit, k0_off7_eq]
    intro a
    fin_cases a
    · show 0 ≤ (y 0).val ∧ (y 0).val < 0 + 1
      omega
    · show 64 * ((y 1).val / 64) ≤ (y 1).val ∧ (y 1).val < 64 * ((y 1).val / 64) + 64
      omega
    · show 0 ≤ (y 2).val ∧ (y 2).val < 0 + 256
      omega

/-- The codes written out. -/
def out7 (i : grid0.Coords) (x0 : Vec F S1x2560x256 .i8) (x1 : Vec F S1x40x256 .bf16) (x2 : Vec F S1x5120x96 .bf16)
    (x3 : Vec F S1x96x256 .bf16) (x4 : Vec F S2x256 .bf16) : Vec F S1x2560x256 .i8 :=
  q7 (v9 x0 x1 x2 x3) (k11 i x0 x1 x2 x3 x4)

end Cert.KernelIdeal.Block

end
-- ==== Proof.Trips.lean ====
/- The lists of stores that the two loops of the kernel body make, as the closed forms of `Block`. -/
module

public import proofs.«01_k».proof.Proof.Block

@[expose] public section

set_option maxRecDepth 16384

noncomputable section

namespace Cert.KernelIdeal.Block

open Idealize.ShloMosaic Idealize.ShloMosaic.TcCoe Idealize.ShloMosaic.Tactic
open Cert.KernelIdeal.Gen

variable {F : FTy → Type} [FloatOps F]
variable (𝒱 : Variants) (c : Dev nD) (bd : Option 𝒱.V) (i : grid0.Coords)
  (arg2 : Memref sig .tc .vmem S1x2560x256 .i8) (harg2 : arg2.IsWhole) (arg3 : Memref sig .tc .vmem S1x40x256 .bf16) (harg3 : arg3.IsWhole)
  (arg4 : Memref sig .tc .vmem S1x5120x96 .bf16) (harg4 : arg4.IsWhole) (arg5 : Memref sig .tc .vmem S1x96x256 .bf16) (harg5 : arg5.IsWhole)
  (arg6 : Memref sig .tc .vmem S2x256 .bf16) (harg6 : arg6.IsWhole) (arg7 : Memref sig .tc .vmem S1x2560x256 .i8) (harg7 : arg7.IsWhole)
  (arg8 : Memref sig .tc .vmem S1x40x256 .bf16) (harg8 : arg8.IsWhole) (arg9 : Memref sig .tc .vmem S5120x256 .f32) (harg9 : arg9.IsWhole)
  (arg10 : Memref sig .tc .vmem S40x256 .f32) (harg10 : arg10.IsWhole) (arg11 : Memref sig .tc .vmem S40x256 .f32) (harg11 : arg11.IsWhole)

set_option maxHeartbeats 1000000 in
/-- One trip of the second loop stores one piece: the packed codes of its group. -/
theorem tripL_t2 (X9 : BufTy.Contents (Elt F) arg9.view.ty) (X11 : BufTy.Contents (Elt F) arg11.view.ty) (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 X9 X11 k
      = [piece7 (arg9.view.read (Elt F) X9) (arg11.view.read (Elt F) X11) k] := by
  unfold tripL_k0_t2 trip_k0_t2
  dsimp only
  sl_unfold_words
  rfl

/-- So the stores of the trips before `n` are those pieces, the last first. -/
theorem pb_t2 (X9 : BufTy.Contents (Elt F) arg9.view.ty) (X11 : BufTy.Contents (Elt F) arg11.view.ty) : ∀ n : ℕ, n ≤ k0_t2_loop.trips →
    pb_k0_t2 (F := F) 𝒱 c bd i arg2 harg2 arg3 harg3 arg4 harg4 arg5 harg5 arg6 harg6 arg7 harg7 arg8 harg8 arg9 harg9 arg10 harg10 arg11 harg11 X9 X11 n
      = upTo (piece7 (arg9.view.read (Elt F) X9) (arg11.view.read (Elt F) X11)) n
  | 0, _ => by rw [pb_k0_t2]; rfl
  | n + 1, h => by
    have e := pb_k0_t2_succ (F := F) 𝒱 c bd i arg2 harg2 arg3 harg3 arg4 harg4 arg5 harg5 arg6 harg6 arg7 harg7 arg8 harg8 arg9 harg9 arg10 harg10 arg11 harg11 X9 X11 ⟨n, h⟩
    have e' := upTo_succ (piece7 (arg9.view.read (Elt F) X9) (arg11.view.read (Elt F) X11)) ⟨n, h⟩
    dsimp only at e e'
    rw [e, e', tripL_t2, pb_t2 X9 X11 n (Nat.le_of_succ_le h)]
    rfl

set_option maxHeartbeats 4000000 in
/-- One trip of the first loop adds the squares of its group to the running sums, -/
theorem tripR_t1 (v0 : Vec F S1x96x256 .bf16) (X2 : BufTy.Contents (Elt F) arg2.view.ty) (X4 : BufTy.Contents (Elt F) arg4.view.ty)
    (X11 : BufTy.Contents (Elt F) arg11.view.ty) (k : Fin k0_t1_loop.trips) (acc : FVec F S8x256 .f32)
    (x1 : Vec F S1x40x256 .bf16) (h11 : arg11.view.read (Elt F) X11 = k0_pay10 x1) :
    tripR_k0_t1 (F := F) 𝒱 c bd i arg2 harg2 arg3 harg3 arg4 harg4 arg5 harg5 arg6 harg6 arg7 harg7 arg8 harg8 arg9 harg9 arg10 harg10 arg11 harg11 v0 X2 X4 X11 k acc
      = k0_pay13 acc (k0_pay7 (k0_pay9 v0) (codesAt (arg2.view.read (Elt F) X2) k) (scaleAt x1 k) (loraAt (arg4.view.read (Elt F) X4) k)) := by
  unfold scaleAt
  rw [← h11]
  unfold tripR_k0_t1 trip_k0_t1
  dsimp only
  sl_unfold_words
  rfl

set_option maxHeartbeats 4000000 in
/-- and stores one piece into each of the two buffers: its merged weights and its greatest absolute values. -/
theorem tripL_t1 (v0 : Vec F S1x96x256 .bf16) (X2 : BufTy.Contents (Elt F) arg2.view.ty) (X4 : BufTy.Contents (Elt F) arg4.view.ty)
    (X11 : BufTy.Contents (Elt F) arg11.view.ty) (k : Fin k0_t1_loop.trips) (acc : FVec F S8x256 .f32)
    (x1 : Vec F S1x40x256 .bf16) (h11 : arg11.view.read (Elt F) X11 = k0_pay10 x1) :
    tripL_k0_t1 (F := F) 𝒱 c bd i arg2 harg2 arg3 harg3 arg4 harg4 arg5 harg5 arg6 harg6 arg7 harg7 arg8 harg8 arg9 harg9 arg10 harg10 arg11 harg11 v0 X2 X4 X11 k acc
      = ([piece9 (arg2.view.read (Elt F) X2) x1 (arg4.view.read (Elt F) X4) v0 k],
         [piece10 (arg2.view.read (Elt F) X2) x1 (arg4.view.read (Elt F) X4) v0 k]) := by
  unfold piece9 piece10 mergedAt amaxAt scaleAt
  rw [← h11]
  unfold tripL_k0_t1 trip_k0_t1
  dsimp only
  sl_unfold_words
  rfl

/-- So before trip `n` the running sums and the stores of the earlier trips are the closed forms. -/
theorem st_t1 (v0 : Vec F S1x96x256 .bf16) (X2 : BufTy.Contents (Elt F) arg2.view.ty) (X4 : BufTy.Contents (Elt F) arg4.view.ty)
    (X11 : BufTy.Contents (Elt F) arg11.view.ty) (x1 : Vec F S1x40x256 .bf16) (h11 : arg11.view.read (Elt F) X11 = k0_pay10 x1) :
    ∀ n : ℕ, n ≤ k0_t1_loop.trips →
    st_k0_t1 (F := F) 𝒱 c bd i arg2 harg2 arg3 harg3 arg4 harg4 arg5 harg5 arg6 harg6 arg7 harg7 arg8 harg8 arg9 harg9 arg10 harg10 arg11 harg11 v0 X2 X4 X11 k0_pay11 n
      = (acc1 (arg2.view.read (Elt F) X2) x1 (arg4.view.read (Elt F) X4) v0 n,
         upTo (piece9 (arg2.view.read (Elt F) X2) x1 (arg4.view.read (Elt F) X4) v0) n,
         upTo (piece10 (arg2.view.read (Elt F) X2) x1 (arg4.view.read (Elt F) X4) v0) n)
  | 0, _ => by rw [st_k0_t1, acc1]; rfl
  | n + 1, h => by
    have e := st_k0_t1_succ (F := F) 𝒱 c bd i arg2 harg2 arg3 harg3 arg4 harg4 arg5 harg5 arg6 harg6 arg7 harg7 arg8 harg8 arg9 harg9 arg10 harg10 arg11 harg11 v0 X2 X4 X11 k0_pay11 ⟨n, h⟩
    have e9 := upTo_succ (piece9 (arg2.view.read (Elt F) X2) x1 (arg4.view.read (Elt F) X4) v0) ⟨n, h⟩
    have e10 := upTo_succ (piece10 (arg2.view.read (Elt F) X2) x1 (arg4.view.read (Elt F) X4) v0) ⟨n, h⟩
    have ea := acc1_succ (arg2.view.read (Elt F) X2) x1 (arg4.view.read (Elt F) X4) v0 ⟨n, h⟩
    have ih := st_t1 v0 X2 X4 X11 x1 h11 n (Nat.le_of_succ_le h)
    have eL := tripL_t1 𝒱 c bd i arg2 harg2 arg3 harg3 arg4 harg4 arg5 harg5 arg6 harg6 arg7 harg7 arg8 harg8 arg9 harg9 arg10 harg10 arg11 harg11 v0 X2 X4 X11 ⟨n, h⟩
      (acc1 (arg2.view.read (Elt F) X2) x1 (arg4.view.read (Elt F) X4) v0 n) x1 h11
    have eR := tripR_t1 𝒱 c bd i arg2 harg2 arg3 harg3 arg4 harg4 arg5 harg5 arg6 harg6 arg7 harg7 arg8 harg8 arg9 harg9 arg10 harg10 arg11 harg11 v0 X2 X4 X11 ⟨n, h⟩
      (acc1 (arg2.view.read (Elt F) X2) x1 (arg4.view.read (Elt F) X4) v0 n) x1 h11
    refine e.trans ?_
    refine (congrArg (fun s : FVec F S8x256 .f32 × List (View.Piece (Elt F) S5120x256 .f32) × List (View.Piece (Elt F) S40x256 .f32) =>
      (tripR_k0_t1 (F := F) 𝒱 c bd i arg2 harg2 arg3 harg3 arg4 harg4 arg5 harg5 arg6 harg6 arg7 harg7 arg8 harg8 arg9 harg9 arg10 harg10 arg11 harg11 v0 X2 X4 X11 ⟨n, h⟩ s.1,
        (tripL_k0_t1 (F := F) 𝒱 c bd i arg2 harg2 arg3 harg3 arg4 harg4 arg5 harg5 arg6 harg6 arg7 harg7 arg8 harg8 arg9 harg9 arg10 harg10 arg11 harg11 v0 X2 X4 X11 ⟨n, h⟩ s.1).1 ++ s.2.1,
        (tripL_k0_t1 (F := F) 𝒱 c bd i arg2 harg2 arg3 harg3 arg4 harg4 arg5 harg5 arg6 harg6 arg7 harg7 arg8 harg8 arg9 harg9 arg10 harg10 arg11 harg11 v0 X2 X4 X11 ⟨n, h⟩ s.1).2 ++ s.2.2)) ih).trans ?_
    refine (Prod.ext (eR.trans ea.symm) (Prod.ext ?_ ?_))
    · exact (congrArg (fun l : List (View.Piece (Elt F) S5120x256 .f32) × List (View.Piece (Elt F) S40x256 .f32) => l.1 ++ _) eL).trans e9.symm
    · exact (congrArg (fun l : List (View.Piece (Elt F) S5120x256 .f32) × List (View.Piece (Elt F) S40x256 .f32) => l.2 ++ _) eL).trans e10.symm

end Cert.KernelIdeal.Block

end
-- ==== Proof.Body.lean ====
/- One run of the kernel body on its staging buffers, the values it leaves in the two outputs named. -/
module

public import proofs.«01_k».proof.Proof.Trips
public import proofs.«01_k».proof.Proof.Gen.KernelIdeal.Frame
public import Idealize.ShloMosaic.Lib.VecWindow

@[expose] public section

set_option maxRecDepth 16384

noncomputable section

namespace Cert.KernelIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A load of a whole buffer at the origin reads the buffer. -/
theorem ld3 {a b d : ℕ} {e : EltTy} (X : Vec F (⟨3, ![a, b, d]⟩ : Shape) e) (inb) :
    View.ld X (Rect.unit (s := ⟨3, ![a, b, d]⟩) ![0, 0, 0] (⟨3, ![a, b, d]⟩ : Shape).size inb) = X :=
  View.ld_unit_zero (by funext x; fin_cases x <;> rfl) inb X

/-- The same for a buffer of rank two. -/
theorem ld2 {a b : ℕ} {e : EltTy} (X : Vec F (⟨2, ![a, b]⟩ : Shape) e) (inb) :
    View.ld X (Rect.unit (s := ⟨2, ![a, b]⟩) ![0, 0] (⟨2, ![a, b]⟩ : Shape).size inb) = X :=
  View.ld_unit_zero (by funext x; fin_cases x <;> rfl) inb X

/-- A store of a whole buffer at the origin leaves its payload, whatever was stored before. -/
theorem full3 {a b d : ℕ} {e : EltTy} {κ : Kind} {sp : Space} (v : View sig κ sp (⟨3, ![a, b, d]⟩ : Shape) e) (f : v.ty.Contents (Elt F))
    (w : Vec F (⟨3, ![a, b, d]⟩ : Shape) e) (inb) (L : List (View.Piece (Elt F) (⟨3, ![a, b, d]⟩ : Shape) e)) :
    v.read (Elt F) (v.writes (Elt F) f
      (⟨Rect.unit (s := ⟨3, ![a, b, d]⟩) ![0, 0, 0] (⟨3, ![a, b, d]⟩ : Shape).size inb, w⟩ :: L)) = w :=
  View.read_writes_full (Val := Elt F) v f inb w L

/-- The same for a buffer of rank two. -/
theorem full2 {a b : ℕ} {e : EltTy} {κ : Kind} {sp : Space} (v : View sig κ sp (⟨2, ![a, b]⟩ : Shape) e) (f : v.ty.Contents (Elt F))
    (w : Vec F (⟨2, ![a, b]⟩ : Shape) e) (inb) (L : List (View.Piece (Elt F) (⟨2, ![a, b]⟩ : Shape) e)) :
    v.read (Elt F) (v.writes (Elt F) f
      (⟨Rect.unit (s := ⟨2, ![a, b]⟩) ![0, 0] (⟨2, ![a, b]⟩ : Shape).size inb, w⟩ :: L)) = w :=
  View.read_writes_full (Val := Elt F) v f inb w L

set_option maxHeartbeats 1000000 in
/-- The body's triple: on whole staging buffers, the inputs' at their blocks, it ends with the inputs' as they were, the outputs' at the
    closed forms `out7` and `out8` of the blocks, and the scratch buffers at some contents. -/
theorem kernelRun (c : Dev nD) (i : grid0.Coords)
    (arg2 : Memref sig .tc .vmem S1x2560x256 .i8) (harg2 : arg2.IsWhole)
    (arg3 : Memref sig .tc .vmem S1x40x256 .bf16) (harg3 : arg3.IsWhole)
    (arg4 : Memref sig .tc .vmem S1x5120x96 .bf16) (harg4 : arg4.IsWhole)
    (arg5 : Memref sig .tc .vmem S1x96x256 .bf16) (harg5 : arg5.IsWhole)
    (arg6 : Memref sig .tc .vmem S2x256 .bf16) (harg6 : arg6.IsWhole)
    (arg7 : Memref sig .tc .vmem S1x2560x256 .i8) (harg7 : arg7.IsWhole)
    (arg8 : Memref sig .tc .vmem S1x40x256 .bf16) (harg8 : arg8.IsWhole)
    (arg9 : Memref sig .tc .vmem S5120x256 .f32) (harg9 : arg9.IsWhole)
    (arg10 : Memref sig .tc .vmem S40x256 .f32) (harg10 : arg10.IsWhole)
    (arg11 : Memref sig .tc .vmem S40x256 .f32) (harg11 : arg11.IsWhole)
    (x0 : Vec F S1x2560x256 .i8) (x1 : Vec F S1x40x256 .bf16) (x2 : Vec F S1x5120x96 .bf16) (x3 : Vec F S1x96x256 .bf16) (x4 : Vec F S2x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out7 i x0 x1 x2 x3 x4) ∗ owns (c : Thread nD τ) arg8 fullShare (out8 i x0 x1 x2 x3 x4) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_dora_merge i arg2 harg2 arg3 harg3 arg4 harg4 arg5 harg5 arg6 harg6 arg7 harg7 arg8 harg8 arg9 harg9 arg10 harg10 arg11 harg11) K := by
    intro E K
    simp only [cc0_dora_merge_eq_skeleton]; unfold cc0_dora_merge_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    have e3 : View.readAt (Elt F) arg3.view (Rect.unit ![0, 0, 0] S1x40x256.size inb_S1x40x256_S1x40x256_0_0_0).toLoadRect (harg3.unread x1) = x1 := by
      rw [View.readAt_eq_ld, harg3.read_unread]; exact ld3 x1 _
    have e5 : View.readAt (Elt F) arg5.view (Rect.unit ![0, 0, 0] S1x96x256.size inb_S1x96x256_S1x96x256_0_0_0).toLoadRect (harg5.unread x3) = x3 := by
      rw [View.readAt_eq_ld, harg5.read_unread]; exact ld3 x3 _
    have e6 : View.readAt (Elt F) arg6.view (Rect.unit ![0, 0] S2x256.size inb_S2x256_S2x256_0_0).toLoadRect (harg6.unread x4) = x4 := by
      rw [View.readAt_eq_ld, harg6.read_unread]; exact ld2 x4 _
    have e11 : arg11.view.read (Elt F) (arg11.view.writes (Elt F) arg11.view.junk
        [⟨Rect.unit ![0, 0] S40x256.size inb_S40x256_S40x256_0_0, k0_pay10 x1⟩]) = k0_pay10 x1 :=
      full2 arg11.view _ (k0_pay10 x1) inb_S40x256_S40x256_0_0 []
    have hst := st_t1 (F := F) Variants.none c none i arg2 harg2 arg3 harg3 arg4 harg4 arg5 harg5 arg6 harg6 arg7 harg7 arg8 harg8 arg9 harg9 arg10
      harg10 arg11 harg11 x3 (harg2.unread x0) (harg4.unread x2) _ x1 e11 _ (le_refl _)
    rw [harg2.read_unread, harg4.read_unread] at hst
    have hR10 := fun f => read_pieces10 arg10.view f x0 x1 x2 x3
    have hR9 := fun f => read_pieces9 arg9.view f x0 x1 x2 x3
    have hA33 : k0_pay15 i (acc1 x0 x1 x2 x3 k0_t1_loop.trips) x4
        (View.readAt (Elt F) arg10.view (Rect.unit ![0, 0] S40x256.size inb_S40x256_S40x256_0_0).toLoadRect
          (arg10.view.writes (Elt F) fs1 (upTo (piece10 x0 x1 x2 x3) k0_t1_loop.trips))) = a33 i x0 x1 x2 x3 x4 := by
      rw [View.readAt_eq_ld, hR10]; exact congrArg _ (ld2 _ _)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_words
      rw [e3, e5, hst, pb_t2 _ _ _ _ _ _ _ _ _ _ _ _ _ _ _ _ _ _ _ _ _ _ _ _ _ _ _ (le_refl _), read_pieces7, hR9]
      rw [e6]
      refine congrArg (q7 _) ((full2 arg11.view _ _ inb_S40x256_S40x256_0_0 _).trans ?_)
      exact congrArg (k0_pay3 _) hA33
    isplitl [H6]
    · iexists _; isplitr; swap; · iexact H6
      ipureintro
      sl_unfold_words
      rw [e3, e5, e6]
      refine (full3 arg8.view _ _ inb_S1x40x256_S1x40x256_0_0_0 []).trans ?_
      rw [hst]
      exact congrArg k0_pay2 hA33
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Block

end
-- ==== Proof.Run.lean ====
/- The run of the kernel's program: the body's triple at every grid point, what every array holds afterwards, and the frame. -/
module

public import proofs.«01_k».proof.Proof.Body
public import Idealize.ShloMosaic.Lib.Claim

@[expose] public section

set_option maxRecDepth 16384

noncomputable section

namespace Cert.KernelIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs -/

/-- Each window's current staging memref at point `t`, spelled as the pipeline passes it (`bodyAt0`), and its wholeness. -/
abbrev ms0_0 (t : Fin cfg0.N) : Memref sig .tc .vmem S1x2560x256 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120x96 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x96x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560x256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x40x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x256 .f32 := Memref.whole cc0_scratch0
abbrev scM0_1 : Memref sig .tc .vmem S40x256 .f32 := Memref.whole cc0_scratch1
abbrev scM0_2 : Memref sig .tc .vmem S40x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The proof data of the pipeline on core `c`: the arrays as the region finds them; after the body at point `t` each input's buffer at
    its block and the two outputs at `out7` and `out8` of the blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out7 (grid0.coords t) (iblk m c 0 t) (iblk m c 1 t) (iblk m c 2 t) (iblk m c 3 t) (iblk m c 4 t)
    | ⟨6, _⟩ => out8 (grid0.coords t) (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out7 (grid0.coords t) (iblk m c 0 t) (iblk m c 1 t) (iblk m c 2 t) (iblk m c 3 t) (iblk m c 4 t) := by dsimp only [dats]
theorem after0_6 (c : Dev nD) (t : Fin cfg0.N) : (dats m 0 c).after 6 t
    = out8 (grid0.coords t) (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every final state has every array of the pipeline at its closed form, and every semaphore counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The same without the counters. -/
theorem run_arrays : θ_run defs (onTc (τ := τ) (main (F := F))) (s₀ m ρ) (Pipeline.FramePost cfgs (dats m) 0 (V m)) :=
  (θ_run defs _ _).mono (fun _ h => h.1) (run_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_arrays m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))

end Cert.KernelIdeal.Block

end
-- ==== Proof.Col.lean ====
/- The mathematics of one column, in the extended reals: the merged weights, their norm, the group scales and the packed codes; and the
   laws by which the order the kernel computes them in agrees with the order the reference does. -/
module

public import Idealize.ShloMosaic.PureOps.Ideal.Laws
public import Idealize.ShloMosaic.Lib.ValueIdx

@[expose] public section

noncomputable section

namespace Cert.Col

open Idealize.ShloMosaic

/-! ### Constants -/

/-- Seven as a real is seven. -/
theorem coe_seven : ((7 : ℝ) : EReal) = 7 := rfl

/-- The pattern of `7` denotes seven, -/
theorem ofBits_seven : Ideal.ofBits .f32 0x40E00000#32 = 7 := by
  rw [← coe_seven]
  simp [Ideal.ofBits, Ideal.ieee, -EReal.coe_mul]; norm_num
/-- that of `-7` minus seven, -/
theorem ofBits_neg_seven : Ideal.ofBits .f32 0xC0E00000#32 = -7 := by
  rw [← coe_seven, ← EReal.coe_neg]
  simp [Ideal.ofBits, Ideal.ieee, -EReal.coe_mul]; norm_num
/-- that of `1` one, -/
theorem ofBits_one : Ideal.ofBits .f32 0x3F800000#32 = 1 := by
  simp [Ideal.ofBits, Ideal.ieee, -EReal.coe_mul]; norm_num
/-- that of `-∞` the least element, -/
theorem ofBits_bot : Ideal.ofBits .f32 0xFF800000#32 = ⊥ := by
  simp [Ideal.ofBits, Ideal.ieee]
/-- and the half is the same in both formats. -/
theorem ofBits_half : Ideal.ofBits .f32 0x3F000000#32 = ((1 / 2 : ℝ) : EReal) := by
  simp [Ideal.ofBits, Ideal.ieee, -EReal.coe_mul]; norm_num
theorem ofBits_half16 : Ideal.ofBits .bf16 0x3F00#16 = ((1 / 2 : ℝ) : EReal) := by
  simp [Ideal.ofBits, Ideal.ieee, -EReal.coe_mul]; norm_num

/-! ### The two codes of a byte -/

/-- The four bits of byte `c` that stand for the even (`0`) or the odd row. -/
def nib (c : BitVec 8) (h : ℕ) : BitVec 4 := if h = 0 then c.setWidth 4 else (c >>> 4).setWidth 4

/-- Shifting up and arithmetically down again leaves the low code; -/
theorem nib_lo_shifts : ∀ c : BitVec 8,
    (IntOp.shrsi .vector (IntOp.shli .vector (c.setWidth 32) 28#32) 28#32).setWidth 4 = nib c 0 := by decide +kernel
/-- with the smaller first shift, the high one. -/
theorem nib_hi_shifts : ∀ c : BitVec 8,
    (IntOp.shrsi .vector (IntOp.shli .vector (c.setWidth 32) 24#32) 28#32).setWidth 4 = nib c 1 := by decide +kernel

/-- Masking, and subtracting sixteen from eight on, gives the low code's value; -/
theorem nib_lo_where : ∀ c : BitVec 8,
    (Scalar.select (IntOp.cmpi .sge (IntOp.andi (c.setWidth 32) 15#32) 8#32) (IntOp.subi (IntOp.andi (c.setWidth 32) 15#32) 16#32)
      (IntOp.andi (c.setWidth 32) 15#32)).toInt = (nib c 0).toInt := by decide +kernel
/-- after a shift, the high code's. -/
theorem nib_hi_where : ∀ c : BitVec 8,
    (Scalar.select (IntOp.cmpi .sge (IntOp.shrsi .host (c.setWidth 32) 4#32) 8#32)
      (IntOp.subi (IntOp.shrsi .host (c.setWidth 32) 4#32) 16#32) (IntOp.shrsi .host (c.setWidth 32) 4#32)).toInt
      = (nib c 1).toInt := by decide +kernel

/-- Two integers packed into the low and the high half of a byte. -/
def pack (q0 q1 : BitVec 32) : BitVec 8 := ((q0 &&& 15#32) ||| ((q1 &&& 15#32) <<< 4#32)).setWidth 8

/-- The low four bits do not depend on what was cut off above them: cutting to sixteen, eight and four bits, -/
theorem low_of_cuts (q : BitVec 32) : ((((q.setWidth 16).setWidth 8).setWidth 4).signExtend 32) &&& 15#32 = q &&& 15#32 := by
  apply BitVec.eq_of_getLsbD_eq
  intro i hi
  rcases Nat.lt_or_ge i 4 with h | h
  · interval_cases i <;> simp [← BitVec.getLsbD_eq_getElem, BitVec.getLsbD_signExtend]
  · have : (15#32).getLsbD i = false := by
      interval_cases i <;> decide
    simp [this]
/-- or to eight. -/
theorem low_of_cut (q : BitVec 32) : ((q.setWidth 8).signExtend 32) &&& 15#32 = q &&& 15#32 := by
  apply BitVec.eq_of_getLsbD_eq
  intro i hi
  rcases Nat.lt_or_ge i 4 with h | h
  · interval_cases i <;> simp [← BitVec.getLsbD_eq_getElem, BitVec.getLsbD_signExtend]
  · have : (15#32).getLsbD i = false := by
      interval_cases i <;> decide
    simp [this]

/-! ### Absolute values -/

/-- The absolute value the programs take. -/
def abs (x : EReal) : EReal := max x (-x)

/-- It is the absolute value of the extended reals, -/
theorem abs_eq_coe (x : EReal) : abs x = (x.abs : EReal) := by
  induction x with
  | bot => simp [abs]
  | top => simp [abs]
  | coe r => rw [EReal.coe_abs]; unfold abs; rw [← EReal.coe_neg]; exact (EReal.coe_strictMono.monotone.map_max (a := r) (b := -r)).symm

/-- it is not negative, -/
theorem abs_nonneg (x : EReal) : 0 ≤ abs x := by
  rw [abs_eq_coe]; exact EReal.coe_ennreal_nonneg _

/-- and it is multiplicative. -/
theorem abs_mul (x y : EReal) : abs (x * y) = abs x * abs y := by
  rw [abs_eq_coe, abs_eq_coe, abs_eq_coe, EReal.abs_mul, EReal.coe_ennreal_mul]

/-! ### Rounding and clipping -/

/-- Rounding gives the floor or more, -/
theorem floor_le_round (r : ℝ) : ⌊r⌋ ≤ Ideal.roundHalfEven r := by
  unfold Ideal.roundHalfEven
  dsimp only
  split_ifs <;> omega

/-- and at most one more than the floor. -/
theorem round_le_floor (r : ℝ) : Ideal.roundHalfEven r ≤ ⌊r⌋ + 1 := by
  unfold Ideal.roundHalfEven
  dsimp only
  split_ifs <;> omega

/-- Rounding to nearest, ties to even, is monotone on the reals -/
theorem round_mono : Monotone Ideal.roundHalfEven := by
  intro a b hab
  rcases (Int.floor_mono hab).lt_or_eq with h | h
  · exact (round_le_floor a).trans (le_trans (by omega) (floor_le_round b))
  · unfold Ideal.roundHalfEven
    dsimp only
    rw [← h]
    split_ifs <;> first | omega | (exfalso; linarith) | skip

/-- and on the extended reals. -/
theorem liftRound_mono : Monotone (Ideal.liftRound Ideal.roundHalfEven) := by
  intro x y h
  induction x with
  | bot => exact bot_le
  | top => rw [top_le_iff.mp h]
  | coe a =>
    induction y with
    | bot => exact absurd h (by simp)
    | top => exact le_top
    | coe b =>
      show ((_ : ℝ) : EReal) ≤ ((_ : ℝ) : EReal)
      exact EReal.coe_le_coe_iff.mpr (Int.cast_le.mpr (round_mono (EReal.coe_le_coe_iff.mp h)))

/-- Whole numbers stay when rounded. -/
theorem liftRound_int (z : ℤ) : Ideal.liftRound Ideal.roundHalfEven ((z : ℝ) : EReal) = ((z : ℝ) : EReal) := by
  show (((Ideal.roundHalfEven (z : ℝ) : ℤ) : ℝ) : EReal) = _
  unfold Ideal.roundHalfEven
  simp

/-- Clipping to whole bounds and rounding commute. -/
theorem clip_round (t : EReal) :
    min 7 (max (-7) (Ideal.liftRound Ideal.roundHalfEven t)) = Ideal.liftRound Ideal.roundHalfEven (min 7 (max (-7) t)) := by
  have h7 : Ideal.liftRound Ideal.roundHalfEven 7 = 7 := by
    rw [← coe_seven]; exact_mod_cast liftRound_int 7
  have h7' : Ideal.liftRound Ideal.roundHalfEven (-7) = -7 := by
    rw [← coe_seven, ← EReal.coe_neg]; exact_mod_cast liftRound_int (-7)
  rw [liftRound_mono.map_min, liftRound_mono.map_max, h7, h7']

/-! ### Scales -/

/-- The norm of a column from its sum of squares, one standing for zero. -/
def normOf (ss : EReal) : EReal := if Ideal.sqrt ss = 0 then 1 else Ideal.sqrt ss

/-- The scale of a group from its greatest absolute value, one standing for zero. -/
def scaleOf (a : EReal) : EReal := if a = 0 then 1 else Ideal.div a 7

/-- A scale is never zero. -/
theorem scaleOf_ne_zero (a : EReal) : scaleOf a ≠ 0 := by
  unfold scaleOf
  split_ifs with h
  · exact one_ne_zero
  · have h7 : (7 : EReal) ≠ 0 := by norm_num
    unfold Ideal.div
    rw [if_neg h7]
    refine mul_ne_zero h ?_
    rw [← coe_seven, ← EReal.coe_inv]
    exact EReal.coe_ne_zero.mpr (by norm_num)

/-- Dividing the product by a scale is multiplying by the divided factor. -/
theorem div_scale (w c a : EReal) : Ideal.div (w * c) (scaleOf a) = w * Ideal.div c (scaleOf a) := by
  unfold Ideal.div
  rw [if_neg (scaleOf_ne_zero a), if_neg (scaleOf_ne_zero a), mul_assoc]

/-- The code of a scaled weight. -/
def quant (t : EReal) : BitVec 32 := Ideal.fptosi 32 (Ideal.liftRound Ideal.roundHalfEven (min 7 (max (-7) t)))

/-! ### Sums and greatest values over blocks -/

/-- A half taken out of a sum. -/
theorem sum_half {n : ℕ} (a b : Fin n → EReal) :
    ∑ k, a k * (b k * ((1 / 2 : ℝ) : EReal)) = ((1 / 2 : ℝ) : EReal) * ∑ k, a k * b k := by
  have key : ∀ s : Finset (Fin n), ((1 / 2 : ℝ) : EReal) * ∑ k ∈ s, a k * b k = ∑ k ∈ s, ((1 / 2 : ℝ) : EReal) * (a k * b k) := by
    intro s
    induction s using Finset.induction_on with
    | empty => simp
    | insert x s hx ih =>
      rw [Finset.sum_insert hx, Finset.sum_insert hx, EReal.left_distrib_of_nonneg_of_ne_top (by positivity) (EReal.coe_ne_top _), ih]
  rw [key]
  exact Finset.sum_congr rfl fun k _ => by rw [← mul_assoc, mul_comm]

/-- A sum over `5120` rows taken over the even ones and the odd ones. -/
theorem sum_rows_pairs (f : Fin 5120 → EReal) :
    ∑ r, f r = ∑ p : Fin 2560, f ⟨2 * p.val, by omega⟩ + ∑ p : Fin 2560, f ⟨2 * p.val + 1, by omega⟩ := by
  rw [← Finset.sum_add_distrib, ← (finProdFinEquiv (m := 2560) (n := 2)).sum_comp, Fintype.sum_prod_type]
  refine Finset.sum_congr rfl fun p _ => ?_
  rw [Fin.sum_univ_two]
  congr 2 <;> apply Fin.ext <;> simp [finProdFinEquiv] <;> omega

/-- The same sum over `40` groups of `16` by `8` rows, the eight outermost. -/
theorem sum_rows_groups (f : Fin 5120 → EReal) :
    ∑ r, f r = ∑ s : Fin 8, ∑ k : Fin 40, ∑ a : Fin 16, f ⟨128 * k.val + 8 * a.val + s.val, by omega⟩ := by
  rw [← (finProdFinEquiv (m := 640) (n := 8)).sum_comp, Fintype.sum_prod_type_right]
  refine Finset.sum_congr rfl fun s _ => ?_
  rw [← (finProdFinEquiv (m := 40) (n := 16)).sum_comp, Fintype.sum_prod_type]
  refine Finset.sum_congr rfl fun k _ => Finset.sum_congr rfl fun a _ => ?_
  congr 1; apply Fin.ext; simp [finProdFinEquiv]; omega

/-- The greatest of `128` values taken over the even ones and the odd ones. -/
theorem sup_rows_pairs (f : Fin 128 → EReal) :
    max ((Finset.univ : Finset (Fin 64)).sup fun p => f ⟨2 * p.val, by omega⟩)
      ((Finset.univ : Finset (Fin 64)).sup fun p => f ⟨2 * p.val + 1, by omega⟩) = Finset.univ.sup f := by
  apply le_antisymm
  · refine max_le (Finset.sup_le fun p _ => ?_) (Finset.sup_le fun p _ => ?_)
    · exact Finset.le_sup (f := f) (Finset.mem_univ _)
    · exact Finset.le_sup (f := f) (Finset.mem_univ _)
  · refine Finset.sup_le fun r _ => ?_
    rcases Nat.mod_two_eq_zero_or_one r.val with h | h
    · refine le_max_of_le_left ?_
      have e : r = ⟨2 * (⟨r.val / 2, by omega⟩ : Fin 64).val, by omega⟩ := Fin.ext (by simp; omega)
      rw [e]
      exact Finset.le_sup (f := fun p : Fin 64 => f ⟨2 * p.val, by omega⟩) (Finset.mem_univ _)
    · refine le_max_of_le_right ?_
      have e : r = ⟨2 * (⟨r.val / 2, by omega⟩ : Fin 64).val + 1, by omega⟩ := Fin.ext (by simp; omega)
      rw [e]
      exact Finset.le_sup (f := fun p : Fin 64 => f ⟨2 * p.val + 1, by omega⟩) (Finset.mem_univ _)

/-- The greatest of `128` values taken over `8` by `16`. -/
theorem sup_rows_blocks (f : Fin 128 → EReal) :
    ((Finset.univ : Finset (Fin 8)).sup fun s => (Finset.univ : Finset (Fin 16)).sup fun a => f ⟨8 * a.val + s.val, by omega⟩)
      = Finset.univ.sup f := by
  apply le_antisymm
  · exact Finset.sup_le fun s _ => Finset.sup_le fun a _ => Finset.le_sup (f := f) (Finset.mem_univ _)
  · refine Finset.sup_le fun r _ => ?_
    have e : r = ⟨8 * (⟨r.val / 8, by omega⟩ : Fin 16).val + (⟨r.val % 8, by omega⟩ : Fin 8).val, by simp; omega⟩ :=
      Fin.ext (by simp; omega)
    rw [e]
    exact (Finset.le_sup (f := fun a : Fin 16 => f ⟨8 * a.val + (⟨r.val % 8, by omega⟩ : Fin 8).val, by simp; omega⟩) (Finset.mem_univ _)).trans
      (Finset.le_sup (f := fun s : Fin 8 => (Finset.univ : Finset (Fin 16)).sup fun a => f ⟨8 * a.val + s.val, by omega⟩) (Finset.mem_univ _))

/-- The greatest absolute value of scaled entries is the greatest absolute value, scaled. -/
theorem sup_abs_mul (f : Fin 128 → EReal) (c : EReal) :
    (Finset.univ.sup fun l => abs (f l * c)) = (Finset.univ.sup fun l => abs (f l)) * abs c := by
  apply le_antisymm
  · refine Finset.sup_le fun l _ => ?_
    rw [abs_mul]
    exact mul_le_mul_of_nonneg_right (Finset.le_sup (f := fun l => abs (f l)) (Finset.mem_univ l)) (abs_nonneg c)
  · obtain ⟨l, _, h⟩ := Finset.exists_mem_eq_sup (Finset.univ : Finset (Fin 128)) ⟨0, Finset.mem_univ _⟩ fun l => abs (f l)
    rw [h, ← abs_mul]
    exact Finset.le_sup (f := fun l => abs (f l * c)) (Finset.mem_univ l)

/-! ### One column -/

end Cert.Col

/-- What one column of the problem is given: its bytes, its group scales, the left factor, its column of the right factor, and its
    magnitude. -/
structure Cert.Column where
  cod : Fin 2560 → BitVec 8
  sc : Fin 40 → EReal
  a : Fin 5120 → Fin 96 → EReal
  b : Fin 96 → EReal
  mag : EReal

namespace Cert.Column

open Idealize.ShloMosaic Cert.Col

variable (C : Cert.Column)

/-- The merged weight of row `r`: its code times its group's scale, plus half the product of the factors. -/
def w (r : Fin 5120) : EReal :=
  (((nib (C.cod ⟨r.val / 2, by omega⟩) (r.val % 2)).toInt : ℝ) : EReal) * C.sc ⟨r.val / 128, by omega⟩
    + ∑ k, C.a r k * (C.b k * ((1 / 2 : ℝ) : EReal))

/-- The column factor: the magnitude over the norm. -/
def c : EReal := Ideal.div C.mag (normOf (∑ r, C.w r * C.w r))

/-- The greatest absolute merged weight of group `g`. -/
def am (g : Fin 40) : EReal := Finset.univ.sup fun l : Fin 128 => abs (C.w ⟨128 * g.val + l.val, by omega⟩)

/-- The scale of group `g`. -/
def s (g : Fin 40) : EReal := scaleOf (C.am g * abs C.c)

/-- The new code of row `r`. -/
def q (r : Fin 5120) : BitVec 32 := quant (C.w r * Ideal.div C.c (C.s ⟨r.val / 128, by omega⟩))

/-- The new byte of rows `2 p` and `2 p + 1`. -/
def packed (p : Fin 2560) : BitVec 8 := pack (C.q ⟨2 * p.val, by omega⟩) (C.q ⟨2 * p.val + 1, by omega⟩)

end Cert.Column

end
-- ==== Proof.KernelVal.lean ====
/- What one grid point of the kernel computes, read column by column: the payloads of the printed program at an index, at the
   extended reals, are the column's merged weights, norm, scales and packed codes. -/
module

public import proofs.«01_k».proof.Proof.Block
public import proofs.«01_k».proof.Proof.Col
public import Idealize.ShloMosaic.Lib.ValueLayout

@[expose] public section

noncomputable section

namespace Cert.KernelIdeal.Block

open Idealize.ShloMosaic Idealize.ShloMosaic.TcCoe Idealize.ShloMosaic.Tactic
open Idealize.ShloMosaic.ValueIdx
open Cert.KernelIdeal.Gen

/-! ### Layout -/

/-- Two arrays interleaved row by row: even rows from the first, odd rows from the second. -/
theorem stack_apply {α : Type} (x y : S64x256.Idx → α) (r : Fin 128) (l : Fin 256) :
    shapeCast S128x256 (concatenate S64x2x256 1 [⟨S64x1x256, shapeCast S64x1x256 x shapeCasts_S64x256_S64x1x256⟩,
      ⟨S64x1x256, shapeCast S64x1x256 y shapeCasts_S64x256_S64x1x256⟩] concatenates_S64x1x256_S64x1x256_S64x2x256_d1)
      shapeCasts_S64x2x256_S128x256 (ix2 r l)
      = if r.val % 2 = 0 then x (ix2 (⟨r.val / 2, by omega⟩ : Fin 64) l) else y (ix2 (⟨r.val / 2, by omega⟩ : Fin 64) l) := by
  rw [shapeCast_apply _ _ (ix2 r l) (ix3 (⟨r.val / 2, by omega⟩ : Fin 64) (⟨r.val % 2, by omega⟩ : Fin 2) l) (by
    rw [Shape.rowMajor_val_three, Shape.rowMajor_val_two]
    show (r.val / 2 * 2 + r.val % 2) * 256 + l.val = r.val * 256 + l.val
    omega)]
  have hs : ∀ (z : S64x256.Idx → α) (p : Fin 64), shapeCast S64x1x256 z shapeCasts_S64x256_S64x1x256 (ix3 p (0 : Fin 1) l) = z (ix2 p l) := by
    intro z p
    refine shapeCast_apply _ _ _ _ ?_
    rw [Shape.rowMajor_val_three, Shape.rowMajor_val_two]
    show p.val * 256 + l.val = (p.val * 1 + 0) * 256 + l.val
    omega
  split
  · next h =>
    refine (concatenate_pair_apply_left (t := S64x2x256) (s₁ := S64x1x256) (s₂ := S64x1x256) 1 _ _ _ _ rfl
      (ix3 (⟨r.val / 2, by omega⟩ : Fin 64) (0 : Fin 1) l) fun b => ?_).trans (hs _ _)
    fin_cases b
    · rfl
    · exact h.symm
    · rfl
  · next h =>
    refine (concatenate_pair_apply_right (t := S64x2x256) (s₁ := S64x1x256) (s₂ := S64x1x256) 1 _ _ _ _ rfl rfl
      (ix3 (⟨r.val / 2, by omega⟩ : Fin 64) (0 : Fin 1) l) (fun b => ?_) ?_).trans (hs _ _)
    · fin_cases b
      · exact fun _ => rfl
      · exact fun hb => absurd rfl hb
      · exact fun _ => rfl
    · show 0 + 1 = r.val % 2
      omega

/-- A row repeated over all rows. -/
theorem row128_apply {α : Type} (x : S1x256.Idx → α) (r : Fin 128) (l : Fin 256) :
    broadcastTo S128x256 x broadcasts_S1x256_S128x256 (ix2 r l) = x (ix2 (0 : Fin 1) l) := by
  refine broadcastTo_apply _ _ _ _ fun a => ?_
  fin_cases a <;> rfl

/-- The same over forty rows. -/
theorem row40_apply {α : Type} (x : S1x256.Idx → α) (r : Fin 40) (l : Fin 256) :
    broadcastTo S40x256 x broadcasts_S1x256_S40x256 (ix2 r l) = x (ix2 (0 : Fin 1) l) := by
  refine broadcastTo_apply _ _ _ _ fun a => ?_
  fin_cases a <;> rfl

/-- The kernel's product of the two factors, at an index. -/
theorem dot_apply (x : FVec Ideal S128x96 .bf16) (y : FVec Ideal S96x256 .bf16) (r : Fin 128) (l : Fin 256) :
    matmul dot_S128x96_S96x256_S128x256_1_0_0_1_n_n none x y (constant S128x256 .f32 0x00000000#32) (ix2 r l)
      = ∑ k : Fin 96, x (ix2 r k) * y (ix2 k l) := by
  rw [show matmul dot_S128x96_S96x256_S128x256_1_0_0_1_n_n none x y (constant S128x256 .f32 0x00000000#32) (ix2 r l) = _ from
    Ideal.matmul_constant_zero_apply _ _ _ _ _]
  rw [← (contrEquiv1 dot_S128x96_S96x256_S128x256_1_0_0_1_n_n 96 rfl rfl).symm.sum_comp]
  refine Finset.sum_congr rfl fun k _ => ?_
  have hk := contrEquiv1_symm_val dot_S128x96_S96x256_S128x256_1_0_0_1_n_n 96 rfl rfl k
  congr 2
  · funext a; apply Fin.ext
    fin_cases a
    · rfl
    · exact (dot_S128x96_S96x256_S128x256_1_0_0_1_n_n.lhsIdx_val_of_single rfl _ _).trans hk
  · funext a; apply Fin.ext
    fin_cases a
    · exact (dot_S128x96_S96x256_S128x256_1_0_0_1_n_n.rhsIdx_val_of_single rfl _ _).trans hk
    · rfl

/-- The kernel's sums over the leading axis, at an index: over sixteen rows, -/
theorem sum16_apply (x : FVec Ideal S16x8x256 .f32) (s : Fin 8) (l : Fin 256) :
    multiReduction .add [0] S8x256 x 0x00000000#32 reduces_S16x8x256_S8x256 (.inl rfl) rfl (ix2 s l) = ∑ a : Fin 16, x (ix3 a s l) := by
  refine (Ideal.multiReduction_add_single x _ _ _ _ _).trans ?_
  exact Finset.sum_congr rfl fun a _ => congrArg x (funext fun b => by fin_cases b <;> rfl)
/-- over eight, -/
theorem sum8_apply (x : FVec Ideal S8x256 .f32) (l : Fin 256) :
    multiReduction .add [0] S256 x 0x00000000#32 reduces_S8x256_S256 (.inl rfl) rfl (ix1 l) = ∑ s : Fin 8, x (ix2 s l) := by
  refine (Ideal.multiReduction_add_single x _ _ _ _ _).trans ?_
  exact Finset.sum_congr rfl fun a _ => congrArg x (funext fun b => by fin_cases b <;> rfl)
/-- and over two. -/
theorem sum2_apply (x : FVec Ideal S2x256 .f32) (l : Fin 256) :
    multiReduction .add [0] S256 x 0x00000000#32 reduces_S2x256_S256 (.inl rfl) rfl (ix1 l) = ∑ s : Fin 2, x (ix2 s l) := by
  refine (Ideal.multiReduction_add_single x _ _ _ _ _).trans ?_
  exact Finset.sum_congr rfl fun a _ => congrArg x (funext fun b => by fin_cases b <;> rfl)
/-- Its greatest values: over sixteen rows, -/
theorem max16_apply (x : FVec Ideal S16x8x256 .f32) (s : Fin 8) (l : Fin 256) :
    multiReduction .maximumf [0] S8x256 x 0xFF800000#32 reduces_S16x8x256_S8x256 (.inl rfl) rfl (ix2 s l)
      = Finset.univ.sup fun a : Fin 16 => (x (ix3 a s l) : EReal) := by
  refine (Ideal.multiReduction_maximumf_single x _ _ _ _ _).trans ?_
  rw [show FloatOps.ofBits (F := Ideal) .f32 0xFF800000#32 = (⊥ : EReal) from Col.ofBits_bot]
  show (Finset.univ : Finset (Fin 16)).sup _ = _
  exact Finset.sup_congr rfl fun a _ => congrArg x (funext fun b => by fin_cases b <;> rfl)
/-- and over eight. -/
theorem max8_apply (x : FVec Ideal S8x256 .f32) (l : Fin 256) :
    multiReduction .maximumf [0] S256 x 0xFF800000#32 reduces_S8x256_S256 (.inl rfl) rfl (ix1 l)
      = Finset.univ.sup fun s : Fin 8 => (x (ix2 s l) : EReal) := by
  refine (Ideal.multiReduction_maximumf_single x _ _ _ _ _).trans ?_
  rw [show FloatOps.ofBits (F := Ideal) .f32 0xFF800000#32 = (⊥ : EReal) from Col.ofBits_bot]
  show (Finset.univ : Finset (Fin 8)).sup _ = _
  exact Finset.sup_congr rfl fun a _ => congrArg x (funext fun b => by fin_cases b <;> rfl)

/-! ### The payloads of the first loop at an index -/

/-- The merged weights of a group, at an index. -/
theorem pay5_apply (v3 : FVec Ideal S96x256 .bf16) (v56 : Vec Ideal S1x64x256 .i8) (v75 : Vec Ideal S1x256 .f32)
    (v77 : Vec Ideal S1x128x96 .bf16) (r : Fin 128) (l : Fin 256) :
    k0_pay5 v3 v56 v75 v77 (ix2 r l)
      = (((Col.nib (v56 (ix3 (0 : Fin 1) (⟨r.val / 2, by omega⟩ : Fin 64) l)) (r.val % 2)).toInt : ℝ) : EReal) * v75 (ix2 (0 : Fin 1) l)
        + ∑ k : Fin 96, v77 (ix3 (0 : Fin 1) r k) * v3 (ix2 k l) := by
  unfold k0_pay5
  refine congr (congrArg (HAdd.hAdd (α := EReal)) (congr (congrArg (HMul.hMul (α := EReal)) ?_) ?_)) ?_
  · refine congrArg (fun b : BitVec 4 => ((b.toInt : ℝ) : EReal)) ?_
    refine (congrArg (BitVec.setWidth 4) (stack_apply _ _ r l)).trans ?_
    split
    · next h =>
      rw [h, ← Col.nib_lo_shifts, ← shapeCast_1ab_ab_apply v56 shapeCasts_S1x64x256_S64x256]
      rfl
    · next h =>
      rw [show r.val % 2 = 1 by omega, ← Col.nib_hi_shifts, ← shapeCast_1ab_ab_apply v56 shapeCasts_S1x64x256_S64x256]
      rfl
  · exact row128_apply _ _ _
  · refine (dot_apply _ _ _ _).trans (Finset.sum_congr rfl fun k _ => ?_)
    rw [shapeCast_1ab_ab_apply]

/-! ### The loaded pieces -/

variable (i : grid0.Coords) (x0 : Vec Ideal S1x2560x256 .i8) (x1 : Vec Ideal S1x40x256 .bf16) (x2 : Vec Ideal S1x5120x96 .bf16)
  (x3 : Vec Ideal S1x96x256 .bf16) (x4 : Vec Ideal S2x256 .bf16)

/-- Column `l` of the point's input blocks. -/
def blockCol (l : Fin 256) : Cert.Column where
  cod p := x0 (ix3 (0 : Fin 1) p l)
  sc g := x1 (ix3 (0 : Fin 1) g l)
  a r k := x2 (ix3 (0 : Fin 1) r k)
  b k := x3 (ix3 (0 : Fin 1) k l)
  mag := x4 (ix2 (⟨(i 0).val, (i 0).isLt⟩ : Fin 2) l)

/-- A trip of the first loop is one of forty. -/
theorem trip1_lt (k : Fin k0_t1_loop.trips) : k.val < 40 := k.isLt.trans_eq trips1
/-- A trip of the second loop is one of forty. -/
theorem trip2_lt (k : Fin k0_t2_loop.trips) : k.val < 40 := k.isLt.trans_eq trips2

/-- The bytes a pass reads, an entry at a time; -/
theorem codesAt_apply (k : Fin k0_t1_loop.trips) (p : Fin 64) (l : Fin 256) :
    codesAt x0 k (ix3 (0 : Fin 1) p l) = x0 (ix3 (0 : Fin 1) (⟨64 * k.val + p.val, by have := trip1_lt k; omega⟩ : Fin 2560) l) := by
  refine congrArg x0 (funext fun a => Fin.ext ?_)
  fin_cases a
  · show (k0_off1 k) 0 + 1 * 0 = 0
    rw [k0_off1_eq]; rfl
  · show (k0_off1 k) 1 + 1 * p.val = 64 * k.val + p.val
    rw [k0_off1_eq]; simp
  · show (k0_off1 k) 2 + 1 * l.val = l.val
    rw [k0_off1_eq]; simp

/-- the scale row it reads; -/
theorem scaleAt_apply (k : Fin k0_t1_loop.trips) (l : Fin 256) :
    scaleAt x1 k (ix2 (0 : Fin 1) l) = x1 (ix3 (0 : Fin 1) (⟨k.val, trip1_lt k⟩ : Fin 40) l) := by
  have e : (Rect.unit (s := S40x256) (k0_off2 k) S1x256.size (k0_off2_inb k)).emb (ix2 (0 : Fin 1) l)
      = ix2 (⟨k.val, trip1_lt k⟩ : Fin 40) l := by
    refine funext fun a => Fin.ext ?_
    fin_cases a
    · show (k0_off2 k) 0 + 1 * 0 = k.val
      rw [k0_off2_eq]; rfl
    · show (k0_off2 k) 1 + 1 * l.val = l.val
      rw [k0_off2_eq]; simp
  show k0_pay10 x1 ((Rect.unit (s := S40x256) (k0_off2 k) S1x256.size (k0_off2_inb k)).emb (ix2 (0 : Fin 1) l)) = _
  rw [e]
  unfold k0_pay10
  rw [shapeCast_self]
  show shapeCast S40x256 x1 shapeCasts_S1x40x256_S40x256 _ = _
  rw [shapeCast_1ab_ab_apply]

/-- the rows of the left factor it reads; -/
theorem loraAt_apply (k : Fin k0_t1_loop.trips) (r : Fin 128) (j : Fin 96) :
    loraAt x2 k (ix3 (0 : Fin 1) r j) = x2 (ix3 (0 : Fin 1) (⟨128 * k.val + r.val, by have := trip1_lt k; omega⟩ : Fin 5120) j) := by
  refine congrArg x2 (funext fun a => Fin.ext ?_)
  fin_cases a
  · show (k0_off3 k) 0 + 1 * 0 = 0
    rw [k0_off3_eq]; rfl
  · show (k0_off3 k) 1 + 1 * r.val = 128 * k.val + r.val
    rw [k0_off3_eq]; simp
  · show (k0_off3 k) 2 + 1 * j.val = j.val
    rw [k0_off3_eq]; simp

/-- the right factor's columns, halved; -/
theorem pay9_apply (k : Fin 96) (l : Fin 256) :
    k0_pay9 x3 (ix2 k l) = x3 (ix3 (0 : Fin 1) k l) * ((1 / 2 : ℝ) : EReal) := by
  unfold k0_pay9
  show shapeCast S96x256 x3 shapeCasts_S1x96x256_S96x256 (ix2 k l) * Ideal.ofBits .bf16 0x3F00#16 = _
  rw [shapeCast_1ab_ab_apply, Col.ofBits_half16]

/-! ### The first loop -/

/-- The merged weights of trip `k` are the columns' merged weights in group `k`. -/
theorem pay5_col (k : Fin k0_t1_loop.trips) (r : Fin 128) (l : Fin 256) :
    k0_pay5 (k0_pay9 x3) (codesAt x0 k) (scaleAt x1 k) (loraAt x2 k) (ix2 r l)
      = (blockCol i x0 x1 x2 x3 x4 l).w ⟨128 * k.val + r.val, by have := trip1_lt k; omega⟩ := by
  have hk := trip1_lt k
  rw [pay5_apply, codesAt_apply, scaleAt_apply]
  unfold Column.w
  refine congr (congrArg (HAdd.hAdd (α := EReal)) (congr (congrArg (HMul.hMul (α := EReal)) ?_) ?_)) ?_
  · have e1 : (128 * k.val + r.val) / 2 = 64 * k.val + r.val / 2 := by omega
    have e2 : (128 * k.val + r.val) % 2 = r.val % 2 := by omega
    show _ = (((Col.nib (x0 (ix3 (0 : Fin 1) (⟨(128 * k.val + r.val) / 2, _⟩ : Fin 2560) l)) ((128 * k.val + r.val) % 2)).toInt : ℝ) : EReal)
    simp only [e1, e2]
  · have e1 : (128 * k.val + r.val) / 128 = k.val := by omega
    show _ = x1 (ix3 (0 : Fin 1) (⟨(128 * k.val + r.val) / 128, _⟩ : Fin 40) l)
    simp only [e1]
  · refine Finset.sum_congr rfl fun j _ => ?_
    rw [loraAt_apply, pay9_apply]
    rfl

/-- the merged weights it stores; -/
theorem mergedAt_apply (k : Fin k0_t1_loop.trips) (r : Fin 128) (l : Fin 256) :
    mergedAt x0 x1 x2 x3 k (ix2 r l)
      = (blockCol i x0 x1 x2 x3 x4 l).w ⟨128 * k.val + r.val, by have := trip1_lt k; omega⟩ := by
  unfold mergedAt k0_pay6
  rw [shapeCast_self, pay5_col i x0 x1 x2 x3 x4]

/-- and the same weights as sixteen blocks of eight rows. -/
theorem pay7_apply (k : Fin k0_t1_loop.trips) (a : Fin 16) (s : Fin 8) (l : Fin 256) :
    k0_pay7 (k0_pay9 x3) (codesAt x0 k) (scaleAt x1 k) (loraAt x2 k) (ix3 a s l)
      = (blockCol i x0 x1 x2 x3 x4 l).w ⟨128 * k.val + 8 * a.val + s.val, by have := trip1_lt k; omega⟩ := by
  have hk := trip1_lt k
  unfold k0_pay7
  rw [shapeCast_apply _ _ (ix3 a s l) (ix2 (⟨8 * a.val + s.val, by omega⟩ : Fin 128) l) (by
    rw [Shape.rowMajor_val_three, Shape.rowMajor_val_two]
    show (8 * a.val + s.val) * 256 + l.val = (a.val * 8 + s.val) * 256 + l.val
    omega), pay5_col i x0 x1 x2 x3 x4]
  exact congrArg _ (Fin.ext (by show 128 * k.val + (8 * a.val + s.val) = _; simp; omega))

/-- The greatest absolute values of trip `k`. -/
theorem amaxAt_apply (k : Fin k0_t1_loop.trips) (l : Fin 256) :
    amaxAt x0 x1 x2 x3 k (ix2 (0 : Fin 1) l) = (blockCol i x0 x1 x2 x3 x4 l).am ⟨k.val, trip1_lt k⟩ := by
  have hk := trip1_lt k
  unfold amaxAt k0_pay12 k0_pay8
  rw [shapeCast_self, shapeCast_a_1a_apply]
  refine (max8_apply _ l).trans ?_
  unfold Column.am
  rw [← Col.sup_rows_blocks]
  refine Finset.sup_congr rfl fun s _ => (max16_apply _ s l).trans (Finset.sup_congr rfl fun a _ => ?_)
  refine congrArg Col.abs ((pay7_apply i x0 x1 x2 x3 x4 k a s l).trans (congrArg _ (Fin.ext ?_)))
  show 128 * k.val + 8 * a.val + s.val = 128 * k.val + (8 * a.val + s.val)
  omega

/-- The running sums of squares before trip `n`. -/
theorem acc1_apply (s : Fin 8) (l : Fin 256) (n : ℕ) (hn : n ≤ 40) :
    acc1 x0 x1 x2 x3 n (ix2 s l)
      = ∑ k : Fin n, ∑ a : Fin 16, (blockCol i x0 x1 x2 x3 x4 l).w ⟨128 * k.val + 8 * a.val + s.val, by omega⟩
          * (blockCol i x0 x1 x2 x3 x4 l).w ⟨128 * k.val + 8 * a.val + s.val, by omega⟩ := by
  induction n with
  | zero =>
    show Ideal.ofBits .f32 0x00000000#32 = _
    rw [Ideal.ofBits_zero_f32]; simp
  | succ n ih =>
    have ht : n < k0_t1_loop.trips := by rw [trips1]; omega
    rw [acc1_succ x0 x1 x2 x3 ⟨n, ht⟩, Fin.sum_univ_castSucc]
    unfold k0_pay13
    refine congr (congrArg (HAdd.hAdd (α := EReal)) (ih (by omega))) ?_
    refine (sum16_apply _ s l).trans (Finset.sum_congr rfl fun a _ => ?_)
    exact congr (congrArg (HMul.hMul (α := EReal)) (pay7_apply i x0 x1 x2 x3 x4 ⟨n, ht⟩ a s l)) (pay7_apply i x0 x1 x2 x3 x4 ⟨n, ht⟩ a s l)

end Cert.KernelIdeal.Block

end
-- ==== Proof.KernelOut.lean ====
/- The two output blocks of a grid point, at an index: the columns' packed codes and group scales. -/
module

public import proofs.«01_k».proof.Proof.KernelVal

@[expose] public section

noncomputable section

namespace Cert.KernelIdeal.Block

open Idealize.ShloMosaic Idealize.ShloMosaic.TcCoe Idealize.ShloMosaic.Tactic
open Idealize.ShloMosaic.ValueIdx
open Cert.KernelIdeal.Gen

variable (i : grid0.Coords) (x0 : Vec Ideal S1x2560x256 .i8) (x1 : Vec Ideal S1x40x256 .bf16) (x2 : Vec Ideal S1x5120x96 .bf16)
  (x3 : Vec Ideal S1x96x256 .bf16) (x4 : Vec Ideal S2x256 .bf16)

/-- The buffer of merged weights holds the columns' merged weights. -/
theorem v9_apply (r : Fin 5120) (l : Fin 256) : v9 x0 x1 x2 x3 (ix2 r l) = (blockCol i x0 x1 x2 x3 x4 l).w r := by
  have hr : r.val / 128 < k0_t1_loop.trips := by rw [trips1]; omega
  refine (mergedAt_apply i x0 x1 x2 x3 x4 ⟨r.val / 128, hr⟩ ⟨r.val % 128, Nat.mod_lt _ (by decide)⟩ l).trans ?_
  exact congrArg _ (Fin.ext (by show 128 * (r.val / 128) + r.val % 128 = r.val; omega))

/-- The buffer of greatest absolute values holds the columns'. -/
theorem a10_apply (g : Fin 40) (l : Fin 256) : a10 x0 x1 x2 x3 (ix2 g l) = (blockCol i x0 x1 x2 x3 x4 l).am g :=
  amaxAt_apply i x0 x1 x2 x3 x4 ⟨g.val, g.isLt.trans_eq trips1.symm⟩ l

/-- Choosing by an equality of floats. -/
theorem select_eq (x y a b : EReal) :
    Scalar.select (FloatOps.cmpf (F := Ideal) (φ := .f32) .oeq x y) a b = if x = y then a else b := by
  show (if BitVec.ofBool (decide (x = y)) = 1 then a else b) = _
  by_cases h : x = y <;> simp [h]

/-- Equal products of equal factors, -/
theorem mul_congr {a a' b b' : EReal} (ha : a = a') (hb : b = b') : a * b = a' * b' := by rw [ha, hb]
/-- equal quotients, -/
theorem div_congr {a a' b b' : EReal} (ha : a = a') (hb : b = b') : Ideal.div a b = Ideal.div a' b' := by rw [ha, hb]
/-- and equal clipped values. -/
theorem clip_congr {a a' b b' c c' : EReal} (ha : a = a') (hb : b = b') (hc : c = c') : min a (max b c) = min a' (max b' c') := by
  rw [ha, hb, hc]

/-- Numbering two rows, the number tells them apart. -/
theorem row_eq : ∀ t s : Fin 2, BitVec.ofBool (BitVec.ofNat 32 s.val == BitVec.ofNat 32 t.val) = 1 ↔ s = t := by decide

/-- Of the two rows of magnitudes, the grid point's own is picked by adding it to zero. -/
theorem own_row (l : Fin 256) :
    ∑ s : Fin 2, Scalar.select (IntOp.cmpi .eq (iota .tc S2x256 32 [0] iota_S2x256_d0_w32 (ix2 s l)) (BitVec.ofNat 32 (i 0).val))
      (x4 (ix2 s l) : EReal) 0 = x4 (ix2 (⟨(i 0).val, (i 0).isLt⟩ : Fin 2) l) := by
  have key : ∀ s : Fin 2, Scalar.select (IntOp.cmpi .eq (iota .tc S2x256 32 [0] iota_S2x256_d0_w32 (ix2 s l)) (BitVec.ofNat 32 (i 0).val))
      (x4 (ix2 s l) : EReal) 0 = if s = (⟨(i 0).val, (i 0).isLt⟩ : Fin 2) then (x4 (ix2 s l) : EReal) else 0 := by
    intro s
    rw [iota_single_apply]
    show (if BitVec.ofBool (BitVec.ofNat 32 s.val == BitVec.ofNat 32 (i 0).val) = 1 then _ else _) = _
    exact if_congr (row_eq ⟨(i 0).val, (i 0).isLt⟩ s) rfl rfl
  rw [Finset.sum_congr rfl fun s _ => key s, Finset.sum_ite_eq' Finset.univ, if_pos (Finset.mem_univ _)]

/-- The column factor. -/
theorem c29_apply (l : Fin 256) : c29 i x0 x1 x2 x3 x4 (ix2 (0 : Fin 1) l) = (blockCol i x0 x1 x2 x3 x4 l).c := by
  have hss : shapeCast S1x256 (multiReduction .add [0] S256 (acc1 x0 x1 x2 x3 k0_t1_loop.trips) 0x00000000#32 reduces_S8x256_S256
        (.inl rfl) rfl) shapeCasts_S256_S1x256 (ix2 (0 : Fin 1) l)
      = ∑ r, (blockCol i x0 x1 x2 x3 x4 l).w r * (blockCol i x0 x1 x2 x3 x4 l).w r := by
    refine (shapeCast_a_1a_apply _ _ _ _).trans ((sum8_apply _ l).trans ?_)
    rw [Col.sum_rows_groups, trips1]
    exact Finset.sum_congr rfl fun s _ => acc1_apply i x0 x1 x2 x3 x4 s l 40 (le_refl _)
  unfold c29 k0_pay14 Column.c
  refine div_congr ?_ ?_
  · refine (shapeCast_a_1a_apply _ _ _ _).trans ((sum2_apply _ l).trans (Eq.trans ?_ (own_row i x4 l)))
    refine Finset.sum_congr rfl fun s _ => ?_
    show Scalar.select _ _ (Ideal.ofBits .f32 0x00000000#32) = _
    rw [Ideal.ofBits_zero_f32]
    rfl
  · refine (select_eq _ _ _ _).trans ?_
    unfold Col.normOf
    rw [← hss]
    refine if_congr (Eq.congr rfl Ideal.ofBits_zero_f32) Col.ofBits_one rfl

/-- The greatest absolute values after the column factor. -/
theorem a33_apply (g : Fin 40) (l : Fin 256) :
    a33 i x0 x1 x2 x3 x4 (ix2 g l) = (blockCol i x0 x1 x2 x3 x4 l).am g * Col.abs (blockCol i x0 x1 x2 x3 x4 l).c := by
  unfold a33 k0_pay15
  refine mul_congr (a10_apply i x0 x1 x2 x3 x4 g l) ?_
  refine (row40_apply _ g l).trans ?_
  exact congrArg Col.abs (c29_apply i x0 x1 x2 x3 x4 l)

/-- The group scales. -/
theorem pay1_apply (g : Fin 40) (l : Fin 256) :
    k0_pay1 (a33 i x0 x1 x2 x3 x4) (ix2 g l) = (blockCol i x0 x1 x2 x3 x4 l).s g := by
  unfold k0_pay1
  refine (select_eq _ _ _ _).trans ?_
  unfold Column.s Col.scaleOf
  rw [← a33_apply]
  refine if_congr (Eq.congr rfl Ideal.ofBits_zero_f32) Col.ofBits_one (congrArg (Ideal.div _) Col.ofBits_seven)

/-- The block of scales written out. -/
theorem out8_apply (g : Fin 40) (l : Fin 256) :
    out8 i x0 x1 x2 x3 x4 (ix3 (0 : Fin 1) g l) = (blockCol i x0 x1 x2 x3 x4 l).s g := by
  unfold out8 k0_pay2
  exact (shapeCast_ab_1ab_apply _ _ _ _ _).trans (pay1_apply i x0 x1 x2 x3 x4 g l)

/-- The factor of each group. -/
theorem k11_apply (g : Fin 40) (l : Fin 256) :
    k11 i x0 x1 x2 x3 x4 (ix2 g l) = Ideal.div (blockCol i x0 x1 x2 x3 x4 l).c ((blockCol i x0 x1 x2 x3 x4 l).s g) := by
  unfold k11 k0_pay3
  rw [shapeCast_self]
  exact div_congr ((row40_apply _ g l).trans (c29_apply i x0 x1 x2 x3 x4 l)) (pay1_apply i x0 x1 x2 x3 x4 g l)

/-- A group's weights, scaled, clipped, rounded and packed, at an index. -/
theorem pay4_apply (w : Vec Ideal S128x256 .f32) (f : Vec Ideal S1x256 .f32) (p : Fin 64) (l : Fin 256) :
    k0_pay4 w f (ix3 (0 : Fin 1) p l)
      = Col.pack (Col.quant (w (ix2 (⟨2 * p.val, by omega⟩ : Fin 128) l) * f (ix2 (0 : Fin 1) l)))
          (Col.quant (w (ix2 (⟨2 * p.val + 1, by omega⟩ : Fin 128) l) * f (ix2 (0 : Fin 1) l))) := by
  have hq : ∀ (r : Fin 128), fptosi 32 (roundeven (minimumf (broadcast S128x256 (Scalar.ofBits (F := Ideal) .f32 0x40E00000#32))
      (maximumf (broadcast S128x256 (Scalar.ofBits (F := Ideal) .f32 0xC0E00000#32))
        (mulf w (broadcastTo S128x256 f broadcasts_S1x256_S128x256))))) (ix2 r l)
      = Col.quant (w (ix2 r l) * f (ix2 (0 : Fin 1) l)) := by
    intro r
    unfold Col.quant
    refine congrArg (Ideal.fptosi 32) (congrArg (Ideal.liftRound Ideal.roundHalfEven) ?_)
    exact clip_congr Col.ofBits_seven Col.ofBits_neg_seven (mul_congr rfl (row128_apply _ r l))
  have hcut : ∀ (x : IVec S128x256 32) (r : Fin 128) (h : Fin 2) (off : Fin 3 → ℕ) (hs : S64x2x256.Slices off S64x1x256),
      off = ![0, h.val, 0] → r.val = 2 * p.val + h.val →
      shapeCast S64x256 (extractStridedSlice S64x1x256 off (shapeCast S64x2x256 x shapeCasts_S128x256_S64x2x256) hs)
        shapeCasts_S64x1x256_S64x256 (ix2 p l) = x (ix2 r l) := by
    intro x r h off hs ho hr
    rw [shapeCast_apply _ _ (ix2 p l) (ix3 p (0 : Fin 1) l) (by
      rw [Shape.rowMajor_val_three, Shape.rowMajor_val_two]
      show (p.val * 1 + 0) * 256 + l.val = p.val * 256 + l.val
      omega)]
    rw [extractStridedSlice_apply _ _ _ (ix3 p (0 : Fin 1) l) (ix3 p h l) (by
      subst ho
      intro a; fin_cases a
      · show p.val = 0 + p.val; omega
      · rfl
      · show l.val = 0 + l.val; omega)]
    refine shapeCast_apply _ _ _ _ ?_
    rw [Shape.rowMajor_val_three, Shape.rowMajor_val_two]
    show r.val * 256 + l.val = (p.val * 2 + h.val) * 256 + l.val
    omega
  unfold k0_pay4
  refine (shapeCast_ab_1ab_apply _ _ _ _ _).trans ?_
  unfold Col.pack
  refine congrArg (BitVec.setWidth 8) (congr (congrArg HOr.hOr ?_) ?_)
  · rw [← hq, ← Col.low_of_cuts]
    exact congrArg (· &&& 15#32) (hcut _ ⟨2 * p.val, by omega⟩ 0 _ _ rfl rfl)
  · rw [← hq, ← Col.low_of_cuts]
    refine Eq.trans (b := IntOp.shli .vector _ 4#32) (congrArg (fun b => IntOp.shli .vector (b &&& 15#32) 4#32)
      (hcut _ ⟨2 * p.val + 1, by omega⟩ 1 _ _ rfl rfl)) ?_
    exact if_pos (by decide)

/-- The block of codes written out. -/
theorem out7_apply (p : Fin 2560) (l : Fin 256) :
    out7 i x0 x1 x2 x3 x4 (ix3 (0 : Fin 1) p l) = (blockCol i x0 x1 x2 x3 x4 l).packed p := by
  have hp : p.val / 64 < k0_t2_loop.trips := by rw [trips2]; omega
  have hw : ∀ r : Fin 128, View.ld (v9 x0 x1 x2 x3) (Rect.unit (s := S5120x256) (k0_off5 ⟨p.val / 64, hp⟩) S128x256.size (k0_off5_inb ⟨p.val / 64, hp⟩))
      (ix2 r l) = (blockCol i x0 x1 x2 x3 x4 l).w ⟨128 * (p.val / 64) + r.val, by omega⟩ := by
    intro r
    refine Eq.trans (congrArg (v9 x0 x1 x2 x3) (funext fun a => Fin.ext ?_)) (v9_apply i x0 x1 x2 x3 x4 _ l)
    fin_cases a
    · show (k0_off5 ⟨p.val / 64, hp⟩) 0 + 1 * r.val = 128 * (p.val / 64) + r.val
      rw [k0_off5_eq]; simp
    · show (k0_off5 ⟨p.val / 64, hp⟩) 1 + 1 * l.val = l.val
      rw [k0_off5_eq]; simp
  have hf : View.ld (k11 i x0 x1 x2 x3 x4) (Rect.unit (s := S40x256) (k0_off6 ⟨p.val / 64, hp⟩) S1x256.size (k0_off6_inb ⟨p.val / 64, hp⟩))
      (ix2 (0 : Fin 1) l) = Ideal.div (blockCol i x0 x1 x2 x3 x4 l).c ((blockCol i x0 x1 x2 x3 x4 l).s ⟨p.val / 64, by omega⟩) := by
    refine Eq.trans (congrArg (k11 i x0 x1 x2 x3 x4) (funext fun a => Fin.ext ?_)) (k11_apply i x0 x1 x2 x3 x4 _ l)
    fin_cases a
    · show (k0_off6 ⟨p.val / 64, hp⟩) 0 + 1 * 0 = p.val / 64
      rw [k0_off6_eq]; rfl
    · show (k0_off6 ⟨p.val / 64, hp⟩) 1 + 1 * l.val = l.val
      rw [k0_off6_eq]; simp
  show quantAt (v9 x0 x1 x2 x3) (k11 i x0 x1 x2 x3 x4) ⟨p.val / 64, hp⟩ (ix3 (0 : Fin 1) (⟨p.val % 64, Nat.mod_lt _ (by decide)⟩ : Fin 64) l) = _
  unfold quantAt
  rw [pay4_apply, hw, hw, hf]
  unfold Column.packed Column.q
  have e0 : 128 * (p.val / 64) + 2 * (p.val % 64) = 2 * p.val := by omega
  have e1 : 128 * (p.val / 64) + (2 * (p.val % 64) + 1) = 2 * p.val + 1 := by omega
  have e2 : 2 * p.val / 128 = p.val / 64 := by omega
  have e3 : (2 * p.val + 1) / 128 = p.val / 64 := by omega
  simp only [e0, e1, e2, e3]

end Cert.KernelIdeal.Block

end
-- ==== Proof.Whole.lean ====
/- The two results as whole arrays of the arguments: every entry is its column's group scale or packed byte. -/
module

public import proofs.«01_k».proof.Proof.Col

@[expose] public section

noncomputable section

namespace Cert.Whole

open Idealize.ShloMosaic Idealize.ShloMosaic.ValueIdx

/-- Column `j` of matrix `b`. -/
def col (x0 : (⟨3, ![2, 2560, 27648]⟩ : Shape).Idx → BitVec 8) (x1 : (⟨3, ![2, 40, 27648]⟩ : Shape).Idx → EReal)
    (x2 : (⟨3, ![2, 5120, 96]⟩ : Shape).Idx → EReal) (x3 : (⟨3, ![2, 96, 27648]⟩ : Shape).Idx → EReal)
    (x4 : (⟨2, ![2, 27648]⟩ : Shape).Idx → EReal) (b : Fin 2) (j : Fin 27648) : Cert.Column where
  cod p := x0 (ix3 b p j)
  sc g := x1 (ix3 b g j)
  a r k := x2 (ix3 b r k)
  b k := x3 (ix3 b k j)
  mag := x4 (ix2 b j)

variable (x0 : (⟨3, ![2, 2560, 27648]⟩ : Shape).Idx → BitVec 8) (x1 : (⟨3, ![2, 40, 27648]⟩ : Shape).Idx → EReal)
    (x2 : (⟨3, ![2, 5120, 96]⟩ : Shape).Idx → EReal) (x3 : (⟨3, ![2, 96, 27648]⟩ : Shape).Idx → EReal)
    (x4 : (⟨2, ![2, 27648]⟩ : Shape).Idx → EReal)

/-- All packed codes. -/
def codes : (⟨3, ![2, 2560, 27648]⟩ : Shape).Idx → BitVec 8 := fun y =>
  (col x0 x1 x2 x3 x4 (y 0) (y 2)).packed (y 1)

/-- All group scales. -/
def scales : (⟨3, ![2, 40, 27648]⟩ : Shape).Idx → EReal := fun y =>
  (col x0 x1 x2 x3 x4 (y 0) (y 2)).s (y 1)

end Cert.Whole

end
-- ==== Proof.Arrays.lean ====
/- What the kernel's two result arrays hold after the run: block by block the columns' packed codes and scales, so the whole arrays. -/
module

public import proofs.«01_k».proof.Proof.Run
public import proofs.«01_k».proof.Proof.KernelOut
public import proofs.«01_k».proof.Proof.Whole
public import Idealize.ShloMosaic.Lib.Pipeline.ValueKit.Geometry

@[expose] public section

set_option maxRecDepth 16384

noncomputable section

namespace Cert.KernelIdeal.Block

open Idealize.ShloMosaic Idealize.ShloMosaic.TcCoe Idealize.ShloMosaic.Tactic
open Idealize.SL Idealize.SL.Sem
open Idealize.ShloMosaic.ValueIdx
open Cert.KernelIdeal.Gen

/-! ### Where a block sits -/

/-- The block indices of the windows: the matrix and the column block; -/
theorem e0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])
theorem e1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
/-- the left factor's block is the whole matrix; -/
theorem e2 : ∀ t : Fin cfg0.N, win0_2.index t = ![(grid0.coords t 0).val, 0, 0] :=
  (by decide +kernel : ∀ t : Fin grid0.N, win0_2.index t = ![(grid0.coords t 0).val, 0, 0])
theorem e3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])
/-- the magnitudes' block has both matrices' rows; -/
theorem e4 : ∀ t : Fin cfg0.N, win0_4.index t = ![0, (grid0.coords t 1).val] :=
  (by decide +kernel : ∀ t : Fin grid0.N, win0_4.index t = ![0, (grid0.coords t 1).val])
/-- the results' blocks are the matrix and the column block again. -/
theorem e5 : ∀ t : Fin cfg0.N, win0_5.index t = ![(grid0.coords t 0).val, 0, (grid0.coords t 1).val] :=
  (by decide +kernel : ∀ t : Fin grid0.N, win0_5.index t = ![(grid0.coords t 0).val, 0, (grid0.coords t 1).val])
theorem e6 : ∀ t : Fin cfg0.N, win0_6.index t = ![(grid0.coords t 0).val, 0, (grid0.coords t 1).val] :=
  (by decide +kernel : ∀ t : Fin grid0.N, win0_6.index t = ![(grid0.coords t 0).val, 0, (grid0.coords t 1).val])

/-- The matrix of point `t`. -/
def matOf (t : Fin cfg0.N) : Fin 2 := ⟨(grid0.coords t 0).val, (grid0.coords t 0).isLt⟩
/-- The column of point `t`'s block column `l`. -/
def colOf (t : Fin cfg0.N) (l : Fin 256) : Fin 27648 :=
  ⟨(grid0.coords t 1).val * 256 + l.val, by have h : (grid0.coords t 1).val < 108 := (grid0.coords t 1).isLt; omega⟩

/-- Where the blocks of the arguments and results lie in their arrays: the codes' block; -/
theorem emb0 (t : Fin cfg0.N) (p : Fin 2560) (l : Fin 256) :
    (win0_0.blk t).view.emb (ix3 (0 : Fin 1) p l) = ix3 (matOf t) p (colOf t l) := by
  blk_ext [e0, matOf, colOf]

/-- the scales' block; -/
theorem emb1 (t : Fin cfg0.N) (g : Fin 40) (l : Fin 256) :
    (win0_1.blk t).view.emb (ix3 (0 : Fin 1) g l) = ix3 (matOf t) g (colOf t l) := by
  blk_ext [e1, matOf, colOf]

/-- the left factor's block; -/
theorem emb2 (t : Fin cfg0.N) (r : Fin 5120) (k : Fin 96) :
    (win0_2.blk t).view.emb (ix3 (0 : Fin 1) r k) = ix3 (matOf t) r k := by
  blk_ext [e2, matOf]

/-- the right factor's block; -/
theorem emb3 (t : Fin cfg0.N) (k : Fin 96) (l : Fin 256) :
    (win0_3.blk t).view.emb (ix3 (0 : Fin 1) k l) = ix3 (matOf t) k (colOf t l) := by
  blk_ext [e3, matOf, colOf]

/-- the magnitudes' block; -/
theorem emb4 (t : Fin cfg0.N) (b : Fin 2) (l : Fin 256) :
    (win0_4.blk t).view.emb (ix2 b l) = ix2 b (colOf t l) := by
  blk_ext [e4, colOf]

/-- the block of new codes; -/
theorem emb5 (t : Fin cfg0.N) (p : Fin 2560) (l : Fin 256) :
    (win0_5.blk t).view.emb (ix3 (0 : Fin 1) p l) = ix3 (matOf t) p (colOf t l) := by
  blk_ext [e5, matOf, colOf]

/-- and the block of new scales. -/
theorem emb6 (t : Fin cfg0.N) (g : Fin 40) (l : Fin 256) :
    (win0_6.blk t).view.emb (ix3 (0 : Fin 1) g l) = ix3 (matOf t) g (colOf t l) := by
  blk_ext [e6, matOf, colOf]

variable (m : (ℓ : Loc nD τ sig) → Buf (Elt Ideal) ℓ) (ρ : Dev nD → PrngReg)

/-- A column of a point's input blocks is a column of the arguments. -/
theorem blockCol_eq (c : Dev nD) (t : Fin cfg0.N) (l : Fin 256) :
    blockCol (grid0.coords t) (iblk m c 0 t) (iblk m c 1 t) (iblk m c 2 t) (iblk m c 3 t) (iblk m c 4 t) l
      = Whole.col (V m c main_arg0) (V m c main_arg1) (V m c main_arg2) (V m c main_arg3) (V m c main_arg4) (matOf t) (colOf t l) := by
  unfold blockCol Whole.col
  congr 1
  · exact funext fun p => congrArg (V m c main_arg0) (emb0 t p l)
  · exact funext fun g => congrArg (V m c main_arg1) (emb1 t g l)
  · exact funext fun r => funext fun k => congrArg (V m c main_arg2) (emb2 t r k)
  · exact funext fun k => congrArg (V m c main_arg3) (emb3 t k l)
  · exact congrArg (V m c main_arg4) (emb4 t (matOf t) l)

/-- The array of codes after the run. -/
theorem final_codes (c : Dev nD) : (dats m 0 c).arrAt 5 cfg0.N
    = Whole.codes (V m c main_arg0) (V m c main_arg1) (V m c main_arg2) (V m c main_arg3) (V m c main_arg4) := by
  refine (dats m 0 c).arrAt_eq_of_covers 5 _ (by decide +kernel) fun t hf y => ?_
  blk_simp
  rw [after0_5]
  obtain ⟨u, p, l, rfl⟩ : ∃ (u : Fin 1) (p : Fin 2560) (l : Fin 256), y = ix3 u p l := ⟨y 0, y 1, y 2, eq_ix3 y⟩
  obtain rfl : u = 0 := Subsingleton.elim _ _
  rw [emb5]
  refine (out7_apply (grid0.coords t) _ _ _ _ _ p l).trans ?_
  rw [blockCol_eq]
  rfl

/-- The array of scales after the run. -/
theorem final_scales (c : Dev nD) : (dats m 0 c).arrAt 6 cfg0.N
    = Whole.scales (V m c main_arg0) (V m c main_arg1) (V m c main_arg2) (V m c main_arg3) (V m c main_arg4) := by
  refine (dats m 0 c).arrAt_eq_of_covers 6 _ (by decide +kernel) fun t hf y => ?_
  blk_simp
  rw [after0_6]
  obtain ⟨u, p, l, rfl⟩ : ∃ (u : Fin 1) (p : Fin 40) (l : Fin 256), y = ix3 u p l := ⟨y 0, y 1, y 2, eq_ix3 y⟩
  obtain rfl : u = 0 := Subsingleton.elim _ _
  rw [emb6]
  refine (out8_apply (grid0.coords t) _ _ _ _ _ p l).trans ?_
  rw [blockCol_eq]
  rfl

/-- The kernel's run: both results are the whole arrays, and the arguments end unchanged. -/
theorem run_values : θ_run defs (onTc (τ := τ) (main (F := Ideal))) ⟨m, fun _ => 0, ρ⟩ (fun r => ∀ c : Dev nD,
      r.2.mem ((c.tc : Thread nD τ).loc main_v0_0)
        = Whole.codes (V m c main_arg0) (V m c main_arg1) (V m c main_arg2) (V m c main_arg3) (V m c main_arg4)
      ∧ r.2.mem ((c.tc : Thread nD τ).loc main_v0_1)
        = Whole.scales (V m c main_arg0) (V m c main_arg1) (V m c main_arg2) (V m c main_arg3) (V m c main_arg4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (unchanged m ρ) (run_arrays m ρ))
  exact ⟨((h.2 c).1 5).trans (final_codes m c), ((h.2 c).1 6).trans (final_scales m c), h.1 c⟩

end Cert.KernelIdeal.Block

end
-- ==== Proof.Ref.lean ====
/- What the reference computes, read off its operations one at a time: in every column the merged weights, the column factor, the group
   scales and the packed codes of `Cert.Column`. -/
module

public import proofs.«01_k».proof.Proof.Gen.ReferenceIdeal.Read
public import proofs.«01_k».proof.Proof.Whole

@[expose] public section

noncomputable section

namespace Cert.Column

open Idealize.ShloMosaic Cert.Col

variable (C : Cert.Column)

/-- The merged weight of an even row, the half outside the sum; -/
theorem w_even (p : Fin 2560) : C.w ⟨2 * p.val, by omega⟩
    = (((nib (C.cod p) 0).toInt : ℝ) : EReal) * C.sc ⟨p.val / 64, by omega⟩
      + ((1 / 2 : ℝ) : EReal) * ∑ k, C.a ⟨2 * p.val, by omega⟩ k * C.b k := by
  have h1 : (⟨2 * p.val / 2, by omega⟩ : Fin 2560) = p := Fin.ext (by simp)
  have h2 : 2 * p.val % 2 = 0 := by omega
  have h3 : (⟨2 * p.val / 128, by omega⟩ : Fin 40) = ⟨p.val / 64, by omega⟩ := Fin.ext (by simp; omega)
  unfold w
  rw [sum_half]
  simp only [h1, h2, h3]

/-- and of an odd one. -/
theorem w_odd (p : Fin 2560) : C.w ⟨2 * p.val + 1, by omega⟩
    = (((nib (C.cod p) 1).toInt : ℝ) : EReal) * C.sc ⟨p.val / 64, by omega⟩
      + ((1 / 2 : ℝ) : EReal) * ∑ k, C.a ⟨2 * p.val + 1, by omega⟩ k * C.b k := by
  have h1 : (⟨(2 * p.val + 1) / 2, by omega⟩ : Fin 2560) = p := Fin.ext (by simp; omega)
  have h2 : (2 * p.val + 1) % 2 = 1 := by omega
  have h3 : (⟨(2 * p.val + 1) / 128, by omega⟩ : Fin 40) = ⟨p.val / 64, by omega⟩ := Fin.ext (by simp; omega)
  unfold w
  rw [sum_half]
  simp only [h1, h2, h3]

end Cert.Column

namespace Cert.ReferenceIdeal.Read

open Cert.ReferenceIdeal Cert.ReferenceIdeal.Gen Idealize.ShloMosaic Idealize.ShloMosaic.ValueIdx Cert.Col

variable (x0 : (⟨S2x2560x27648, .i8⟩ : BufTy).Contents (Elt Ideal)) (x1 : (⟨S2x40x27648, .bf16⟩ : BufTy).Contents (Elt Ideal))
  (x2 : (⟨S2x5120x96, .bf16⟩ : BufTy).Contents (Elt Ideal)) (x3 : (⟨S2x96x27648, .bf16⟩ : BufTy).Contents (Elt Ideal))
  (x4 : (⟨S2x27648, .bf16⟩ : BufTy).Contents (Elt Ideal))
  (b : Fin 2) (g : Fin 40) (j : Fin 27648)

/-- The column the reference reads. -/
abbrev C : Cert.Column := Whole.col x0 x1 x2 x3 x4 b j

/-- Equal parts have equal sums, -/
theorem add_congr {u u' v v' : EReal} (hu : u = u') (hv : v = v') : u + v = u' + v' := by rw [hu, hv]
/-- and equal greater ones. -/
theorem max_congr {u u' v v' : EReal} (hu : u = u') (hv : v = v') : max u v = max u' v' := by rw [hu, hv]
/-- A clipped value from equal bounds and an equal value. -/
theorem clip_congr {u u' v v' w w' : EReal} (hu : u = u') (hv : v = v') (hw : w = w') : min u (max v w) = min u' (max v' w') := by
  rw [hu, hv, hw]

/-! ### Rows in groups -/

/-- Row `p` of all is row `p % 64` of group `p / 64`; -/
theorem to_group (p : Fin 2560) : idx_main_v21 (ix3 b p j) = ix4 b (⟨p.val / 64, by omega⟩ : Fin 40) (⟨p.val % 64, by omega⟩ : Fin 64) j := by
  funext a
  apply Fin.ext
  fin_cases a
  · show ((b.val * 2560 + p.val) * 27648 + j.val) / 70778880 = b.val; omega
  · show ((b.val * 2560 + p.val) * 27648 + j.val) / 1769472 % 40 = p.val / 64; omega
  · show ((b.val * 2560 + p.val) * 27648 + j.val) / 27648 % 64 = p.val % 64; omega
  · show ((b.val * 2560 + p.val) * 27648 + j.val) % 27648 = j.val; omega

/-- row `l` of group `g` is row `64 g + l` of all. -/
theorem of_group (l : Fin 64) : idx_main_v15 (ix4 b g l j) = ix3 b (⟨64 * g.val + l.val, by omega⟩ : Fin 2560) j := by
  funext a
  apply Fin.ext
  fin_cases a
  · show (((b.val * 40 + g.val) * 64 + l.val) * 27648 + j.val) / 70778880 = b.val; omega
  · show (((b.val * 40 + g.val) * 64 + l.val) * 27648 + j.val) / 27648 % 2560 = 64 * g.val + l.val; omega
  · show (((b.val * 40 + g.val) * 64 + l.val) * 27648 + j.val) % 27648 = j.val; omega

/-- There and back. -/
theorem of_to_group (p : Fin 2560) :
    idx_main_v15 (ix4 b (⟨p.val / 64, by omega⟩ : Fin 40) (⟨p.val % 64, by omega⟩ : Fin 64) j) = ix3 b p j := by
  rw [of_group]
  exact congrArg (fun q => ix3 b q j) (Fin.ext (by simp; omega))

/-- A group's value is the same for all its rows. -/
theorem row_group (l : Fin 64) : idx_main_v18 (idx_main_v19 (ix4 b g l j)) = ix3 b g j := by
  funext a; fin_cases a <;> rfl

/-! ### Merged weights -/

/-- The low code of each byte, -/
theorem code_lo (y : S2x2560x27648.Idx) : (val_main_v9 (F := Ideal) x0 y).toInt = (nib (x0 y) 0).toInt := by
  refine Eq.trans (congrArg BitVec.toInt ?_) (nib_lo_where (x0 y))
  simp only [val_main_v9_apply, val_main_v6_apply, val_main_v8_apply, val_main_v2_apply, val_main_v0_apply, val_main_v1_apply,
    val_main_c_apply, val_main_v5_apply, val_main_c_1_apply, val_main_v7_apply, val_main_c_2_apply]

/-- and the high one. -/
theorem code_hi (y : S2x2560x27648.Idx) : (val_main_v14 (F := Ideal) x0 y).toInt = (nib (x0 y) 1).toInt := by
  refine Eq.trans (congrArg BitVec.toInt ?_) (nib_hi_where (x0 y))
  simp only [val_main_v14_apply, val_main_v11_apply, val_main_v13_apply, val_main_v4_apply, val_main_v0_apply, val_main_v3_apply,
    val_main_c_0_apply, val_main_v10_apply, val_main_c_3_apply, val_main_v12_apply, val_main_c_4_apply]

/-- The dequantized even rows -/
theorem deq_lo (p : Fin 2560) : val_main_v21 (F := Ideal) x0 x1 (ix3 b p j)
    = (((nib (x0 (ix3 b p j)) 0).toInt : ℝ) : EReal) * x1 (ix3 b (⟨p.val / 64, by omega⟩ : Fin 40) j) := by
  rw [val_main_v21_apply, to_group, val_main_v20_apply, val_main_v16_apply, val_main_v15_apply, of_to_group, val_main_v19_apply,
    val_main_v18_apply, row_group, val_main_v17_apply, ← code_lo]
  rfl

/-- and odd rows. -/
theorem deq_hi (p : Fin 2560) : val_main_v28 (F := Ideal) x0 x1 (ix3 b p j)
    = (((nib (x0 (ix3 b p j)) 1).toInt : ℝ) : EReal) * x1 (ix3 b (⟨p.val / 64, by omega⟩ : Fin 40) j) := by
  rw [val_main_v28_apply, show idx_main_v28 (ix3 b p j) = _ from to_group b j p, val_main_v27_apply, val_main_v23_apply,
    val_main_v22_apply, show idx_main_v22 (ix4 b _ _ j) = _ from of_to_group b j p, val_main_v26_apply,
    val_main_v25_apply, show idx_main_v25 (idx_main_v26 (ix4 b _ _ j)) = _ from row_group b _ j _, val_main_v24_apply, ← code_hi]
  rfl

/-- The left factor's row `h` of pair `p` is its row `2 p + h`. -/
theorem of_pair (p : Fin 2560) (h : Fin 2) (k : Fin 96) :
    idx_main_v29 (ix4 b p h k) = ix3 b (⟨2 * p.val + h.val, by omega⟩ : Fin 5120) k := by
  funext a
  apply Fin.ext
  fin_cases a
  · show (((b.val * 2560 + p.val) * 2 + h.val) * 96 + k.val) / 491520 = b.val; omega
  · show (((b.val * 2560 + p.val) * 2 + h.val) * 96 + k.val) / 96 % 5120 = 2 * p.val + h.val; omega
  · show (((b.val * 2560 + p.val) * 2 + h.val) * 96 + k.val) % 96 = k.val; omega

/-- The slice of even rows reads each pair's first row, -/
theorem pair_lo (p : Fin 2560) (k : Fin 96) : idx_main_v30 (idx_main_v31 (lidx_main_v34 (ix3 b p j) k)) = ix4 b p (0 : Fin 2) k := by
  funext a
  apply Fin.ext
  fin_cases a
  · show ((b.val * 2560 + p.val) * 96 + k.val) / 245760 = b.val; omega
  · show ((b.val * 2560 + p.val) * 96 + k.val) / 96 % 2560 = p.val; omega
  · rfl
  · show ((b.val * 2560 + p.val) * 96 + k.val) % 96 = k.val; omega

/-- that of odd rows its second, -/
theorem pair_hi (p : Fin 2560) (k : Fin 96) : idx_main_v32 (idx_main_v33 (lidx_main_v35 (ix3 b p j) k)) = ix4 b p (1 : Fin 2) k := by
  funext a
  apply Fin.ext
  fin_cases a
  · show ((b.val * 2560 + p.val) * 96 + k.val) / 245760 = b.val; omega
  · show ((b.val * 2560 + p.val) * 96 + k.val) / 96 % 2560 = p.val; omega
  · rfl
  · show ((b.val * 2560 + p.val) * 96 + k.val) % 96 = k.val; omega

/-- and the product reads the right factor's column. -/
theorem right_idx (p : Fin 2560) (k : Fin 96) : ridx_main_v34 (ix3 b p j) k = ix3 b k j := by
  funext a; fin_cases a <;> rfl

/-- The product of the factors on the even rows -/
theorem dot_lo (p : Fin 2560) : val_main_v34 (F := Ideal) x2 x3 (ix3 b p j)
    = ∑ k, x2 (ix3 b (⟨2 * p.val, by omega⟩ : Fin 5120) k) * x3 (ix3 b k j) := by
  rw [val_main_v34_apply]
  refine Finset.sum_congr rfl fun k _ => ?_
  rw [val_main_v31_apply, val_main_v30_apply, val_main_v29_apply, pair_lo, of_pair, right_idx]
  rfl

/-- and on the odd ones. -/
theorem dot_hi (p : Fin 2560) : val_main_v35 (F := Ideal) x2 x3 (ix3 b p j)
    = ∑ k, x2 (ix3 b (⟨2 * p.val + 1, by omega⟩ : Fin 5120) k) * x3 (ix3 b k j) := by
  rw [val_main_v35_apply]
  refine Finset.sum_congr rfl fun k _ => ?_
  rw [val_main_v33_apply, val_main_v32_apply, val_main_v29_apply, pair_hi, of_pair, show ridx_main_v35 (ix3 b p j) k = _ from right_idx b j p k]
  rfl

/-- The merged even rows -/
theorem w_lo (p : Fin 2560) : val_main_v38 (F := Ideal) x0 x1 x2 x3 (ix3 b p j) = (C x0 x1 x2 x3 x4 b j).w ⟨2 * p.val, by omega⟩ := by
  rw [val_main_v38_apply, deq_lo, val_main_v37_apply, dot_lo, val_main_v36_apply, val_main_cst_apply, Column.w_even]
  show _ + Ideal.ofBits .f32 0x3F000000#32 * _ = _
  rw [ofBits_half]
  rfl

/-- and odd rows. -/
theorem w_hi (p : Fin 2560) : val_main_v41 (F := Ideal) x0 x1 x2 x3 (ix3 b p j) = (C x0 x1 x2 x3 x4 b j).w ⟨2 * p.val + 1, by omega⟩ := by
  rw [val_main_v41_apply, deq_hi, val_main_v40_apply, dot_hi, val_main_v39_apply, val_main_cst_5_apply, Column.w_odd]
  show _ + Ideal.ofBits .f32 0x3F000000#32 * _ = _
  rw [ofBits_half]
  rfl

/-! ### The column factor -/

/-- The sum over the rows reads one column. -/
theorem col_idx (k : Fin 2560) : idx_main_v43 (ix2 b j) k = ix3 b k j := by
  funext a; fin_cases a <;> rfl

/-- The sum of squares, the even rows' and the odd rows' apart. -/
theorem ss_apply : val_main_v46 (F := Ideal) x0 x1 x2 x3 (ix2 b j)
    = ∑ r, (C x0 x1 x2 x3 x4 b j).w r * (C x0 x1 x2 x3 x4 b j).w r := by
  rw [val_main_v46_apply, val_main_v43_apply, val_main_v45_apply, val_main_cst_6_apply, val_main_cst_7_apply, sum_rows_pairs]
  show (Ideal.ofBits .f32 0x00000000#32 + _) + (Ideal.ofBits .f32 0x00000000#32 + _) = _
  rw [Ideal.ofBits_zero_f32, zero_add, zero_add]
  refine add_congr (Finset.sum_congr rfl fun k _ => ?_) (Finset.sum_congr rfl fun k _ => ?_)
  · rw [val_main_v42_apply, col_idx, w_lo x0 x1 x2 x3 x4]; rfl
  · rw [val_main_v44_apply, show idx_main_v45 (ix2 b j) k = _ from col_idx b j k, w_hi x0 x1 x2 x3 x4]; rfl

/-- Choosing by an equality test on extended reals. -/
theorem select_eq (x y u v : EReal) :
    Scalar.select (FloatOps.cmpf (F := Ideal) (φ := .f32) .oeq x y) u v = if x = y then u else v := by
  show (if BitVec.ofBool (decide (x = y)) = 1 then u else v) = _
  by_cases h : x = y <;> simp [h]

/-- The magnitude over the norm. -/
theorem c_apply : val_main_v52 (F := Ideal) x0 x1 x2 x3 x4 (ix2 b j) = (C x0 x1 x2 x3 x4 b j).c := by
  rw [val_main_v52_apply, val_main_v51_apply, val_main_v50_apply, val_main_v49_apply, val_main_v47_apply, ss_apply x0 x1 x2 x3 x4,
    val_main_v48_apply, val_main_cst_8_apply, val_main_call2_v1_apply, val_main_call2_v0_apply, val_main_cst_9_apply]
  unfold Column.c
  generalize (∑ r, (C x0 x1 x2 x3 x4 b j).w r * (C x0 x1 x2 x3 x4 b j).w r) = ss
  refine congrArg (Ideal.div (x4 (ix2 b j))) ((select_eq _ _ _ _).trans ?_)
  unfold normOf
  exact if_congr (Eq.congr rfl Ideal.ofBits_zero_f32) ofBits_one rfl

/-- A column's factor is the same for all its rows. -/
theorem spread_idx (p : Fin 2560) : idx_main_v53 (idx_main_v54 (ix3 b p j)) = ix2 b j := by
  funext a; fin_cases a <;> rfl

/-- The normalized even row `l` of group `g` -/
theorem n_lo (l : Fin 64) : val_main_v58 (F := Ideal) x0 x1 x2 x3 x4 (ix4 b g l j)
    = (C x0 x1 x2 x3 x4 b j).w ⟨128 * g.val + 2 * l.val, by omega⟩ * (C x0 x1 x2 x3 x4 b j).c := by
  rw [val_main_v58_apply, show idx_main_v58 (ix4 b g l j) = _ from of_group b g j l, val_main_v55_apply, val_main_v54_apply,
    val_main_v53_apply, spread_idx, c_apply, w_lo x0 x1 x2 x3 x4]
  exact congrArg (fun r => (C x0 x1 x2 x3 x4 b j).w r * (C x0 x1 x2 x3 x4 b j).c) (Fin.ext (by simp; omega))

/-- and the odd one. -/
theorem n_hi (l : Fin 64) : val_main_v59 (F := Ideal) x0 x1 x2 x3 x4 (ix4 b g l j)
    = (C x0 x1 x2 x3 x4 b j).w ⟨128 * g.val + (2 * l.val + 1), by omega⟩ * (C x0 x1 x2 x3 x4 b j).c := by
  rw [val_main_v59_apply, show idx_main_v59 (ix4 b g l j) = _ from of_group b g j l, val_main_v57_apply, val_main_v56_apply,
    val_main_v53_apply, show idx_main_v53 (idx_main_v56 (ix3 b _ j)) = _ from spread_idx b j _, c_apply, w_hi x0 x1 x2 x3 x4]
  exact congrArg (fun r => (C x0 x1 x2 x3 x4 b j).w r * (C x0 x1 x2 x3 x4 b j).c) (Fin.ext (by simp; omega))

/-! ### Scales -/

/-- A greatest value over the rows of a group. -/
theorem sup_apply (y : (⟨S2x40x64x27648, .f32⟩ : BufTy).Contents (Elt Ideal)) (z : (⟨S_, .f32⟩ : BufTy).Contents (Elt Ideal))
    (hz : z (Shape.Idx.first h_S_) = (⊥ : EReal)) :
    Host.reduce (FloatOps.maximumf (F := Ideal) (φ := .f32)) y z reducesTo_S2x40x64x27648_S2x40x27648_d2 h_S_ (ix3 b g j)
      = (Finset.univ : Finset (Fin 64)).sup fun l => (y (ix4 b g l j) : EReal) := by
  have hc : Std.Commutative (FloatOps.maximumf (F := Ideal) (φ := .f32)) := ⟨fun p q => max_comm (α := EReal) p q⟩
  have ha : Std.Associative (FloatOps.maximumf (F := Ideal) (φ := .f32)) := ⟨fun p q r => max_assoc (α := EReal) p q r⟩
  refine (Host.reduce_eq_fold_single (FloatOps.maximumf (F := Ideal) (φ := .f32)) y z reducesTo_S2x40x64x27648_S2x40x27648_d2
    (by decide) h_S_ (ix3 b g j)).trans ?_
  rw [hz]
  show Finset.univ.sup _ = _
  refine Finset.sup_congr rfl fun l _ => congrArg y (funext fun a => Fin.ext ?_)
  fin_cases a <;> rfl

/-- The greatest absolute value of a group's normalized weights. -/
theorem am_apply : val_main_v64 (F := Ideal) x0 x1 x2 x3 x4 (ix3 b g j)
    = (C x0 x1 x2 x3 x4 b j).am g * Col.abs (C x0 x1 x2 x3 x4 b j).c := by
  rw [val_main_v64_apply]
  unfold Column.am
  rw [← sup_abs_mul (fun l => (C x0 x1 x2 x3 x4 b j).w ⟨128 * g.val + l.val, by omega⟩), ← sup_rows_pairs]
  refine max_congr ((sup_apply b g j _ _ ofBits_bot).trans (Finset.sup_congr rfl fun l _ => ?_))
    ((sup_apply b g j _ _ ofBits_bot).trans (Finset.sup_congr rfl fun l _ => ?_))
  · rw [val_main_v60_apply, n_lo]; rfl
  · rw [val_main_v62_apply, n_hi]; rfl

/-- The scale, before its change of format. -/
theorem s_apply : val_main_v69 (F := Ideal) x0 x1 x2 x3 x4 (ix3 b g j) = (C x0 x1 x2 x3 x4 b j).s g := by
  rw [val_main_v69_apply, val_main_v66_apply, val_main_v68_apply, am_apply, val_main_v65_apply, val_main_cst_12_apply,
    val_main_call3_v1_apply, val_main_call3_v0_apply, val_main_v67_apply]
  refine (select_eq _ _ _ _).trans ?_
  unfold Column.s scaleOf
  exact if_congr (Eq.congr rfl Ideal.ofBits_zero_f32) ofBits_one (congrArg (Ideal.div _) ofBits_seven)

/-- The second result holds every group's scale. -/
theorem scales_eq : val_main_v70 (F := Ideal) x0 x1 x2 x3 x4 = Whole.scales x0 x1 x2 x3 x4 := by
  funext y
  obtain ⟨b, g, j, rfl⟩ : ∃ b g j, y = ix3 b g j := ⟨_, _, _, eq_ix3 y⟩
  rw [val_main_v70_apply]
  exact s_apply x0 x1 x2 x3 x4 b g j

/-! ### Codes -/

/-- A rounded and clipped quotient by a group's scale is the code of the product. -/
theorem quant_div (C : Cert.Column) (g : Fin 40) (r : Fin 5120) (h : r.val / 128 = g.val) :
    Ideal.fptosi 32 (min 7 (max (-7) (Ideal.liftRound Ideal.roundHalfEven (Ideal.div (C.w r * C.c) (C.s g))))) = C.q r := by
  have e : (⟨r.val / 128, by omega⟩ : Fin 40) = g := Fin.ext h
  rw [clip_round]
  unfold Column.q quant
  rw [e]
  unfold Column.s
  rw [div_scale]

/-- The code of the even row `l` of group `g`, -/
theorem q_lo (l : Fin 64) : val_main_v77 (F := Ideal) x0 x1 x2 x3 x4 (ix4 b g l j)
    = (C x0 x1 x2 x3 x4 b j).q ⟨128 * g.val + 2 * l.val, by omega⟩ := by
  rw [val_main_v77_apply, val_main_v76_apply, val_main_call5_v4_apply, val_main_call5_v3_apply, val_main_cst_16_apply,
    val_main_call5_v2_apply, val_main_call5_v1_apply, val_main_call5_v0_apply, val_main_cst_15_apply, val_main_v75_apply,
    val_main_v74_apply, n_lo, val_main_v73_apply, val_main_v72_apply,
    show idx_main_v72 (idx_main_v73 (ix4 b g l j)) = _ from row_group b g j l, val_main_v71_apply, val_main_v70_apply, s_apply]
  refine Eq.trans (congrArg (Ideal.fptosi 32) (clip_congr ofBits_seven ofBits_neg_seven rfl))
    (quant_div (C x0 x1 x2 x3 x4 b j) g _ (by simp; omega))

/-- and of the odd one. -/
theorem q_hi (l : Fin 64) : val_main_v83 (F := Ideal) x0 x1 x2 x3 x4 (ix4 b g l j)
    = (C x0 x1 x2 x3 x4 b j).q ⟨128 * g.val + (2 * l.val + 1), by omega⟩ := by
  rw [val_main_v83_apply, val_main_v82_apply, val_main_call7_v4_apply, val_main_call7_v3_apply, val_main_cst_18_apply,
    val_main_call7_v2_apply, val_main_call7_v1_apply, val_main_call7_v0_apply, val_main_cst_17_apply, val_main_v81_apply,
    val_main_v80_apply, n_hi, val_main_v79_apply, val_main_v72_apply,
    show idx_main_v72 (idx_main_v79 (ix4 b g l j)) = _ from row_group b g j l, val_main_v71_apply, val_main_v70_apply, s_apply]
  refine Eq.trans (congrArg (Ideal.fptosi 32) (clip_congr ofBits_seven ofBits_neg_seven rfl))
    (quant_div (C x0 x1 x2 x3 x4 b j) g _ (by simp; omega))

/-- The byte of pair `l` of group `g`. -/
theorem pack_apply (l : Fin 64) : val_main_v94 (F := Ideal) x0 x1 x2 x3 x4 (ix4 b g l j)
    = pack ((C x0 x1 x2 x3 x4 b j).q ⟨128 * g.val + 2 * l.val, by omega⟩)
        ((C x0 x1 x2 x3 x4 b j).q ⟨128 * g.val + (2 * l.val + 1), by omega⟩) := by
  rw [← q_lo, ← q_hi]
  unfold pack
  rw [← low_of_cut (val_main_v77 (F := Ideal) x0 x1 x2 x3 x4 (ix4 b g l j)),
    ← low_of_cut (val_main_v83 (F := Ideal) x0 x1 x2 x3 x4 (ix4 b g l j))]
  rfl

/-- The first result holds every byte. -/
theorem codes_eq : val_main_v95 (F := Ideal) x0 x1 x2 x3 x4 = Whole.codes x0 x1 x2 x3 x4 := by
  funext y
  obtain ⟨b, p, j, rfl⟩ : ∃ b p j, y = ix3 b p j := ⟨_, _, _, eq_ix3 y⟩
  rw [val_main_v95_apply, show idx_main_v95 (ix3 b p j) = _ from to_group b j p, pack_apply]
  show _ = pack ((C x0 x1 x2 x3 x4 b j).q ⟨2 * p.val, _⟩) ((C x0 x1 x2 x3 x4 b j).q ⟨2 * p.val + 1, _⟩)
  exact congr (congrArg pack (congrArg (C x0 x1 x2 x3 x4 b j).q (Fin.ext (by simp; omega))))
    (congrArg (C x0 x1 x2 x3 x4 b j).q (Fin.ext (by simp; omega)))

end Cert.ReferenceIdeal.Read

end
-- ==== Proof.KernelRun.lean ====
/- The run of the kernel's program at any float type, its outputs left unnamed: the body's triple at every grid point, and the frame. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments after a run -/

/-- From a run that leaves the pipeline's input arrays as the region found them, the argument arrays end as launched. -/
theorem frame_post (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-! ## The kernel body on any staging memrefs -/

/-- Each window's current staging memref at point `t`, spelled as the pipeline passes it (`bodyAt0`), and its wholeness. -/
abbrev ms0_0 (t : Fin cfg0.N) : Memref sig .tc .vmem S1x2560x256 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120x96 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x96x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560x256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x40x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x256 .f32 := Memref.whole cc0_scratch0
abbrev scM0_1 : Memref sig .tc .vmem S40x256 .f32 := Memref.whole cc0_scratch1
abbrev scM0_2 : Memref sig .tc .vmem S40x256 .f32 := Memref.whole cc0_scratch2

/-- The pipeline's invariant, spelled out: the three scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 1000000 in
/-- One call of the kernel: given the five inputs' buffers at known contents and the two outputs' and three scratch buffers at any,
    it ends with the inputs' contents as they were and the others at some contents. -/
theorem kernelRun0_A (c : Dev nD) (i : grid0.Coords) (arg2 : Memref sig .tc .vmem S1x2560x256 .i8) (harg2 : arg2.IsWhole) (arg3 : Memref sig .tc .vmem S1x40x256 .bf16) (harg3 : arg3.IsWhole) (arg4 : Memref sig .tc .vmem S1x5120x96 .bf16) (harg4 : arg4.IsWhole) (arg5 : Memref sig .tc .vmem S1x96x256 .bf16) (harg5 : arg5.IsWhole) (arg6 : Memref sig .tc .vmem S2x256 .bf16) (harg6 : arg6.IsWhole) (arg7 : Memref sig .tc .vmem S1x2560x256 .i8) (harg7 : arg7.IsWhole) (arg8 : Memref sig .tc .vmem S1x40x256 .bf16) (harg8 : arg8.IsWhole) (arg9 : Memref sig .tc .vmem S5120x256 .f32) (harg9 : arg9.IsWhole) (arg10 : Memref sig .tc .vmem S40x256 .f32) (harg10 : arg10.IsWhole) (arg11 : Memref sig .tc .vmem S40x256 .f32) (harg11 : arg11.IsWhole)
    (x0 : Vec F S1x2560x256 .i8) (x1 : Vec F S1x40x256 .bf16) (x2 : Vec F S1x5120x96 .bf16) (x3 : Vec F S1x96x256 .bf16) (x4 : Vec F S2x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_dora_merge i arg2 harg2 arg3 harg3 arg4 harg4 arg5 harg5 arg6 harg6 arg7 harg7 arg8 harg8 arg9 harg9 arg10 harg10 arg11 harg11) K := by
    intro E K
    simp only [cc0_dora_merge_eq_skeleton]; unfold cc0_dora_merge_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The windows whose contents are left unnamed: the two outputs. -/
def forgets0 : Fin 7 → Bool := fun w => w.val == 5 || w.val == 6

/-- The proof data of the pipeline on core `c`: arrays as the region finds them; after the body each input's buffer at its block,
    each output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- After the body, input 0's buffer holds its block. -/
theorem after0_0 (c : Dev nD) (t : Fin cfg0.N) : (dats m 0 c).after 0 t = iblk m c 0 t := by dsimp only [dats]
/-- After the body, input 1's buffer holds its block. -/
theorem after0_1 (c : Dev nD) (t : Fin cfg0.N) : (dats m 0 c).after 1 t = iblk m c 1 t := by dsimp only [dats]
/-- After the body, input 2's buffer holds its block. -/
theorem after0_2 (c : Dev nD) (t : Fin cfg0.N) : (dats m 0 c).after 2 t = iblk m c 2 t := by dsimp only [dats]
/-- After the body, input 3's buffer holds its block. -/
theorem after0_3 (c : Dev nD) (t : Fin cfg0.N) : (dats m 0 c).after 3 t = iblk m c 3 t := by dsimp only [dats]
/-- After the body, input 4's buffer holds its block. -/
theorem after0_4 (c : Dev nD) (t : Fin cfg0.N) : (dats m 0 c).after 4 t = iblk m c 4 t := by dsimp only [dats]

/-- Before the body, input 0's buffer holds its block. -/
theorem before0_0 (c : Dev nD) (t : Fin cfg0.N) (d) : (dats m 0 c).before 0 t d = iblk m c 0 t :=
  before0_0_of m (dats m 0 c) (A_eq m c 0) (after0_0 m c) t d
/-- Before the body, input 1's buffer holds its block. -/
theorem before0_1 (c : Dev nD) (t : Fin cfg0.N) (d) : (dats m 0 c).before 1 t d = iblk m c 1 t :=
  before0_1_of m (dats m 0 c) (A_eq m c 1) (after0_1 m c) t d
/-- Before the body, input 2's buffer holds its block. -/
theorem before0_2 (c : Dev nD) (t : Fin cfg0.N) (d) : (dats m 0 c).before 2 t d = iblk m c 2 t :=
  before0_2_of m (dats m 0 c) (A_eq m c 2) (after0_2 m c) t d
/-- Before the body, input 3's buffer holds its block. -/
theorem before0_3 (c : Dev nD) (t : Fin cfg0.N) (d) : (dats m 0 c).before 3 t d = iblk m c 3 t :=
  before0_3_of m (dats m 0 c) (A_eq m c 3) (after0_3 m c) t d
/-- Before the body, input 4's buffer holds its block. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 800000 in
/-- At every grid point the body takes what it is given to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The same in the form the pipeline's library asks for. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- Every run of the program ends, with the input arrays unchanged and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the program ends with the input arrays unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run ends with the five arguments as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_post m ρ (fun c => (dats m 0 c).toRForget forgets0) (A_eq m) (run_main m ρ)

/-- Every run ends with the five arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Forget

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Arrays
public import proofs.«01_k».proof.Proof.Ref
public import proofs.«01_k».proof.Proof.KernelRun
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.StableHlo Idealize.SL.Sem

/-- The reference's run: its results are the whole arrays of packed codes and scales of its arguments, which end unchanged. -/
theorem reference_run (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => ∀ c : Dev ReferenceIdeal.nD,
        r.2.mem ((c.tc : Thread ReferenceIdeal.nD ReferenceIdeal.τ).loc ReferenceIdeal.main_v95)
          = Whole.codes (m ((c.tc : Thread ReferenceIdeal.nD ReferenceIdeal.τ).loc ReferenceIdeal.main_arg0))
              (m ((c.tc : Thread ReferenceIdeal.nD ReferenceIdeal.τ).loc ReferenceIdeal.main_arg1))
              (m ((c.tc : Thread ReferenceIdeal.nD ReferenceIdeal.τ).loc ReferenceIdeal.main_arg2))
              (m ((c.tc : Thread ReferenceIdeal.nD ReferenceIdeal.τ).loc ReferenceIdeal.main_arg3))
              (m ((c.tc : Thread ReferenceIdeal.nD ReferenceIdeal.τ).loc ReferenceIdeal.main_arg4))
        ∧ r.2.mem ((c.tc : Thread ReferenceIdeal.nD ReferenceIdeal.τ).loc ReferenceIdeal.main_v70)
          = Whole.scales (m ((c.tc : Thread ReferenceIdeal.nD ReferenceIdeal.τ).loc ReferenceIdeal.main_arg0))
              (m ((c.tc : Thread ReferenceIdeal.nD ReferenceIdeal.τ).loc ReferenceIdeal.main_arg1))
              (m ((c.tc : Thread ReferenceIdeal.nD ReferenceIdeal.τ).loc ReferenceIdeal.main_arg2))
              (m ((c.tc : Thread ReferenceIdeal.nD ReferenceIdeal.τ).loc ReferenceIdeal.main_arg3))
              (m ((c.tc : Thread ReferenceIdeal.nD ReferenceIdeal.τ).loc ReferenceIdeal.main_arg4))
        ∧ r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1)
        ∧ r.2.mem ((c.tc : Thread ReferenceIdeal.nD ReferenceIdeal.τ).loc ReferenceIdeal.main_arg2)
          = m ((c.tc : Thread ReferenceIdeal.nD ReferenceIdeal.τ).loc ReferenceIdeal.main_arg2)
        ∧ r.2.mem ((c.tc : Thread ReferenceIdeal.nD ReferenceIdeal.τ).loc ReferenceIdeal.main_arg3)
          = m ((c.tc : Thread ReferenceIdeal.nD ReferenceIdeal.τ).loc ReferenceIdeal.main_arg3)
        ∧ r.2.mem ((c.tc : Thread ReferenceIdeal.nD ReferenceIdeal.τ).loc ReferenceIdeal.main_arg4)
          = m ((c.tc : Thread ReferenceIdeal.nD ReferenceIdeal.τ).loc ReferenceIdeal.main_arg4)) :=
  (θ_run ReferenceIdeal.defs _ _).mono (fun r h c =>
      ⟨((h c).1.trans (ReferenceIdeal.Read.val_main_v95_eq (launchContents m c))).trans (ReferenceIdeal.Read.codes_eq _ _ _ _ _),
        ((h c).2.1.trans (ReferenceIdeal.Read.val_main_v70_eq (launchContents m c))).trans (ReferenceIdeal.Read.scales_eq _ _ _ _ _),
        (h c).2.2⟩)
    (ReferenceIdeal.Value.run (F := Ideal) m ρ)

/-- The reference runs and leaves its arguments unchanged; it has no counters. -/
theorem frame_reference : Cert.quiescent_ReferenceIdeal := fun m ρ _ =>
  (θ_run ReferenceIdeal.defs _ _).mono (fun r h => ⟨fun c => (h c).2.2, sem_eq_zero_of_no_sems (by decide) r.2⟩) (reference_run m ρ)

/-- From the same arguments kernel and reference end with the same packed codes and the same scales. -/
theorem algebraic : Cert.algebraic_KernelIdeal_ReferenceIdeal := by
  intro m ρ m' ρ' _ hagree
  refine ⟨_, _, KernelIdeal.Block.run_values m ρ, (θ_run ReferenceIdeal.defs _ _).mono (fun r h c => ?_) (reference_run m' ρ')⟩
  obtain ⟨h0, h1, h2, h3, h4⟩ := hagree c
  obtain ⟨hv, hs, ha⟩ := h c
  rw [h0, h1, h2, h3, h4] at hv hs
  exact ⟨hv, hs, ha⟩

/-- All five claims. -/
theorem claim : Cert.Claim := ⟨Cert.Kernel.Gen.facts, Cert.KernelIdeal.Gen.facts, Cert.ReferenceIdeal.Gen.facts,
  fun m ρ _ => Cert.Kernel.Forget.frame m ρ, fun m ρ _ => Cert.KernelIdeal.Block.frame m ρ, frame_reference, trivial, algebraic⟩

end Cert.Proof

end
